-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x128 : Shape := ⟨2, ![16384, 128]⟩
abbrev S256x2 : Shape := ⟨2, ![256, 2]⟩
abbrev S16384x2 : Shape := ⟨2, ![16384, 2]⟩
abbrev S2048x512 : Shape := ⟨2, ![2048, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S512 .f32) (main_arg7 : FVec F S512x256 .f32) (main_arg8 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg7
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S16384x128 .f32) (main_arg1 : IVec S256x2 32) (main_arg2 : FVec F S16384x2 .f32) (main_arg3 : FVec F S2048x512 .f32) (main_arg4 : FVec F S512 .f32) (main_arg5 : FVec F S512 .f32) (main_arg6 : FVec F S512 .f32) (main_arg7 : FVec F S512x256 .f32) (main_arg8 : FVec F S256 .f32) (main_arg9 : FVec F S256 .f32) (main_arg10 : FVec F S256 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S2048x512 .f32 := Host.absf main_arg3
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_v13 main_v16
-- ==== Kernel.lean ====
abbrev S16384x128 : Shape := ⟨2, ![16384, 128]⟩
abbrev S256x2 : Shape := ⟨2, ![256, 2]⟩
abbrev S16384x2 : Shape := ⟨2, ![16384, 2]⟩
abbrev S2048x512 : Shape := ⟨2, ![2048, 512]⟩
abbrev S512 : Shape := ⟨1, ![512]⟩
abbrev S512x256 : Shape := ⟨2, ![512, 256]⟩
abbrev S256 : Shape := ⟨1, ![256]⟩
abbrev S256x64x128 : Shape := ⟨3, ![256, 64, 128]⟩
abbrev S256x64x2 : Shape := ⟨3, ![256, 64, 2]⟩
abbrev S256x2x64 : Shape := ⟨3, ![256, 2, 64]⟩
abbrev S1x512 : Shape := ⟨2, ![1, 512]⟩
abbrev S256x64x512 : Shape := ⟨3, ![256, 64, 512]⟩
abbrev S4x64x2 : Shape := ⟨3, ![4, 64, 2]⟩
abbrev S4x2x64 : Shape := ⟨3, ![4, 2, 64]⟩
abbrev S4x64x128 : Shape := ⟨3, ![4, 64, 128]⟩
abbrev S4x64x512 : Shape := ⟨3, ![4, 64, 512]⟩
abbrev S256x64 : Shape := ⟨2, ![256, 64]⟩
abbrev S256x2048 : Shape := ⟨2, ![256, 2048]⟩
abbrev S1x64x1 : Shape := ⟨3, ![1, 64, 1]⟩
abbrev S64x1 : Shape := ⟨2, ![64, 1]⟩
abbrev S1x1x64 : Shape := ⟨3, ![1, 1, 64]⟩
abbrev S1x64 : Shape := ⟨2, ![1, 64]⟩
abbrev S64x64 : Shape := ⟨2, ![64, 64]⟩
abbrev S256x1 : Shape := ⟨2, ![256, 1]⟩
abbrev S256x256 : Shape := ⟨2, ![256, 256]⟩
abbrev S256x128 : Shape := ⟨2, ![256, 128]⟩
abbrev S256x512 : Shape := ⟨2, ![256, 512]⟩
abbrev S16384x512 : Shape := ⟨2, ![16384, 512]⟩
abbrev S1x256 : Shape := ⟨2, ![1, 256]⟩
abbrev S16384x256 : Shape := ⟨2, ![16384, 256]⟩
abbrev S512x512 : Shape := ⟨2, ![512, 512]⟩

abbrev nBuf : Space → Nat
  | .hbm => 28
  | .vmem => 34
  | .smem => 0
  | _ => 0

abbrev bufTy : (tb : Table) → Fin (tcTables nBuf tb) → BufTy
  | .hbm, ⟨0, _⟩ => ⟨S16384x128, .f32⟩
  | .hbm, ⟨1, _⟩ => ⟨S256x2, .i32⟩
  | .hbm, ⟨2, _⟩ => ⟨S16384x2, .f32⟩
  | .hbm, ⟨3, _⟩ => ⟨S2048x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x64x128, .f32⟩
  | .hbm, ⟨12, _⟩ => ⟨S256x64x2, .f32⟩
  | .hbm, ⟨13, _⟩ => ⟨S256x2x64, .f32⟩
  | .hbm, ⟨14, _⟩ => ⟨S1x512, .f32⟩
  | .hbm, ⟨15, _⟩ => ⟨S256x64x512, .f32⟩
  | .hbm, ⟨16, _⟩ => ⟨S1x512, .f32⟩
  | .hbm, ⟨17, _⟩ => ⟨S1x512, .f32⟩
  | .hbm, ⟨18, _⟩ => ⟨S16384x512, .f32⟩
  | .hbm, ⟨19, _⟩ => ⟨S1x512, .f32⟩
  | .hbm, ⟨20, _⟩ => ⟨S1x512, .f32⟩
  | .hbm, ⟨21, _⟩ => ⟨S1x256, .f32⟩
  | .hbm, ⟨22, _⟩ => ⟨S16384x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S16384x256, .f32⟩
  | .local _ .vmem, ⟨0, _⟩ => ⟨S4x64x2, .f32⟩
  | .local _ .vmem, ⟨1, _⟩ => ⟨S4x64x2, .f32⟩
  | .local _ .vmem, ⟨2, _⟩ => ⟨S4x2x64, .f32⟩
  | .local _ .vmem, ⟨3, _⟩ => ⟨S4x2x64, .f32⟩
  | .local _ .vmem, ⟨4, _⟩ => ⟨S4x64x128, .f32⟩
  | .local _ .vmem, ⟨5, _⟩ => ⟨S4x64x128, .f32⟩
  | .local _ .vmem, ⟨6, _⟩ => ⟨S2048x512, .f32⟩
  | .local _ .vmem, ⟨7, _⟩ => ⟨S1x512, .f32⟩
  | .local _ .vmem, ⟨8, _⟩ => ⟨S4x64x512, .f32⟩
  | .local _ .vmem, ⟨9, _⟩ => ⟨S4x64x512, .f32⟩
  | .local _ .vmem, ⟨10, _⟩ => ⟨S1x512, .f32⟩
  | .local _ .vmem, ⟨11, _⟩ => ⟨S1x512, .f32⟩
  | .local _ .vmem, ⟨12, _⟩ => ⟨S256x64, .f32⟩
  | .local _ .vmem, ⟨13, _⟩ => ⟨S256x2048, .f32⟩
  | .local _ .vmem, ⟨14, _⟩ => ⟨S512x512, .f32⟩
  | .local _ .vmem, ⟨15, _⟩ => ⟨S512x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S512x256, .f32⟩
  | .local _ .vmem, ⟨21, _⟩ => ⟨S1x256, .f32⟩
  | .local _ .vmem, ⟨22, _⟩ => ⟨S512x256, .f32⟩
  | .local _ .vmem, ⟨23, _⟩ => ⟨S512x256, .f32⟩
  | .local _ .vmem, ⟨24, _⟩ => ⟨S1x256, .f32⟩
  | .local _ .vmem, ⟨25, _⟩ => ⟨S1x256, .f32⟩
  | .local _ .vmem, ⟨26, _⟩ => ⟨S512x256, .f32⟩
  | .local _ .vmem, ⟨27, _⟩ => ⟨S512x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S512x256, .f32⟩
  | .local _ .vmem, ⟨33, _⟩ => ⟨S512x256, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg9_0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc1_sem8_0 : DmaSem sig := 22
abbrev cc1_sem9_0 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem5_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x64x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S16384x128 : Shape := ⟨2, ![16384, 128]⟩
abbrev S256x2 : Shape := ⟨2, ![256, 2]⟩
abbrev S16384x2 : Shape := ⟨2, ![16384, 2]⟩
abbrev S2048x512 : Shape := ⟨2, ![2048, 512]⟩
abbrev S512 : Shape := ⟨1, ![512]⟩
abbrev S512x256 : Shape := ⟨2, ![512, 256]⟩
abbrev S256 : Shape := ⟨1, ![256]⟩
abbrev S256x64x128 : Shape := ⟨3, ![256, 64, 128]⟩
abbrev S256x64x2 : Shape := ⟨3, ![256, 64, 2]⟩
abbrev S256x64x1x2 : Shape := ⟨4, ![256, 64, 1, 2]⟩
abbrev S256x1x64x2 : Shape := ⟨4, ![256, 1, 64, 2]⟩
abbrev S256x64x64x2 : Shape := ⟨4, ![256, 64, 64, 2]⟩
abbrev S_ : Shape := ⟨0, ![]⟩
abbrev S256x64x64 : Shape := ⟨3, ![256, 64, 64]⟩
abbrev S256x64x16 : Shape := ⟨3, ![256, 64, 16]⟩
abbrev S256x1x1 : Shape := ⟨3, ![256, 1, 1]⟩
abbrev S256x64x16x1 : Shape := ⟨4, ![256, 64, 16, 1]⟩
abbrev S256x64x16x2 : Shape := ⟨4, ![256, 64, 16, 2]⟩
abbrev S256x64x16x128 : Shape := ⟨4, ![256, 64, 16, 128]⟩
abbrev S16384x2048 : Shape := ⟨2, ![16384, 2048]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩

abbrev nBuf : Space → Nat
  | .hbm => 161
  | .vmem => 0
  | .smem => 0
  | _ => 0

abbrev hbmTy0_0 (i : Nat) : BufTy := match i % 128 with
  | 0 => ⟨S16384x128, .f32⟩
  | 1 => ⟨S256x2, .i32⟩
  | 2 => ⟨S16384x2, .f32⟩
  | 3 => ⟨S2048x512, .f32⟩
  | 4 => ⟨S512, .f32⟩
  | 5 => ⟨S512, .f32⟩
  | 6 => ⟨S512, .f32⟩
  | 7 => ⟨S512x256, .f32⟩
  | 8 => ⟨S256, .f32⟩
  | 9 => ⟨S256, .f32⟩
  | 10 => ⟨S256, .f32⟩
  | 11 => ⟨S256x64x128, .f32⟩
  | 12 => ⟨S256x64x2, .f32⟩
  | 13 => ⟨S256x64x1x2, .f32⟩
  | 14 => ⟨S256x1x64x2, .f32⟩
  | 15 => ⟨S256x64x64x2, .f32⟩
  | 16 => ⟨S256x64x64x2, .f32⟩
  | 17 => ⟨S256x64x64x2, .f32⟩
  | 18 => ⟨S256x64x64x2, .f32⟩
  | 19 => ⟨S_, .f32⟩
  | 20 => ⟨S256x64x64, .f32⟩
  | 21 => ⟨S256x64x64, .f32⟩
  | 22 => ⟨S256x64x64, .i32⟩
  | 23 => ⟨S256x64x64, .f32⟩
  | 24 => ⟨S256x64x64, .i32⟩
  | 25 => ⟨S256x64x64, .i32⟩
  | 26 => ⟨S256x64x64, .i32⟩
  | 27 => ⟨S256x64x64, .i32⟩
  | 28 => ⟨S256x64x16, .i32⟩
  | 29 => ⟨S256, .i32⟩
  | 30 => ⟨S256x1x1, .i32⟩
  | 31 => ⟨S_, .i32⟩
  | 32 => ⟨S256x1x1, .i32⟩
  | 33 => ⟨S256x1x1, .i1⟩
  | 34 => ⟨S_, .i32⟩
  | 35 => ⟨S256x1x1, .i32⟩
  | 36 => ⟨S256x1x1, .i32⟩
  | 37 => ⟨S256x1x1, .i32⟩
  | 38 => ⟨S_, .i32⟩
  | 39 => ⟨S256x64x16, .i32⟩
  | 40 => ⟨S256x64x16, .i1⟩
  | 41 => ⟨S_, .i32⟩
  | 42 => ⟨S256x64x16, .i32⟩
  | 43 => ⟨S256x64x16, .i32⟩
  | 44 => ⟨S256x64x16, .i32⟩
  | 45 => ⟨S256x64x16, .i32⟩
  | 46 => ⟨S256x64x16x1, .i32⟩
  | 47 => ⟨S256x64x16x1, .i32⟩
  | 48 => ⟨S256x64x16x2, .i32⟩
  | 49 => ⟨S256x64x16x128, .f32⟩
  | 50 => ⟨S16384x2048, .f32⟩
  | 51 => ⟨S16384x512, .f32⟩
  | 52 => ⟨S1x512, .f32⟩
  | 53 => ⟨S16384x512, .f32⟩
  | 54 => ⟨S16384x512, .f32⟩
  | 55 => ⟨S_, .f32⟩
  | 56 => ⟨S512, .f32⟩
  | 57 => ⟨S_, .f32⟩
  | 58 => ⟨S512, .f32⟩
  | 59 => ⟨S512, .f32⟩
  | 60 => ⟨S_, .i32⟩
  | 61 => ⟨S_, .f32⟩
  | 62 => ⟨S512, .f32⟩
  | 63 => ⟨S1x512, .f32⟩
  | 64 => ⟨S_, .f32⟩
  | 65 => ⟨S1x512, .f32⟩
  | 66 => ⟨S1x512, .f32⟩
  | 67 => ⟨S16384x512, .f32⟩
  | 68 => ⟨S16384x512, .f32⟩
  | 69 => ⟨S16384x512, .f32⟩
  | 70 => ⟨S_, .f32⟩
  | 71 => ⟨S_, .f32⟩
  | 72 => ⟨S_, .f32⟩
  | 73 => ⟨S_, .f32⟩
  | 74 => ⟨S512, .f32⟩
  | 75 => ⟨S512, .f32⟩
  | 76 => ⟨S512, .f32⟩
  | 77 => ⟨S_, .f32⟩
  | 78 => ⟨S_, .i1⟩
  | 79 => ⟨S_, .f32⟩
  | 80 => ⟨S_, .f32⟩
  | 81 => ⟨S512, .f32⟩
  | 82 => ⟨S512, .f32⟩
  | 83 => ⟨S1x512, .f32⟩
  | 84 => ⟨S16384x512, .f32⟩
  | 85 => ⟨S16384x512, .f32⟩
  | 86 => ⟨S_, .f32⟩
  | 87 => ⟨S512, .f32⟩
  | 88 => ⟨S512, .f32⟩
  | 89 => ⟨S512, .f32⟩
  | 90 => ⟨S1x512, .f32⟩
  | 91 => ⟨S16384x512, .f32⟩
  | 92 => ⟨S16384x512, .f32⟩
  | 93 => ⟨S1x512, .f32⟩
  | 94 => ⟨S16384x512, .f32⟩
  | 95 => ⟨S16384x512, .f32⟩
  | 96 => ⟨S1x512, .f32⟩
  | 97 => ⟨S16384x512, .f32⟩
  | 98 => ⟨S16384x512, .f32⟩
  | 99 => ⟨S_, .f32⟩
  | 100 => ⟨S16384x512, .f32⟩
  | 101 => ⟨S16384x512, .i1⟩
  | 102 => ⟨S_, .f32⟩
  | 103 => ⟨S16384x512, .f32⟩
  | 104 => ⟨S16384x512, .f32⟩
  | 105 => ⟨S16384x512, .f32⟩
  | 106 => ⟨S16384x256, .f32⟩
  | 107 => ⟨S1x256, .f32⟩
  | 108 => ⟨S16384x256, .f32⟩
  | 109 => ⟨S16384x256, .f32⟩
  | 110 => ⟨S_, .f32⟩
  | 111 => ⟨S256, .f32⟩
  | 112 => ⟨S_, .f32⟩
  | 113 => ⟨S256, .f32⟩
  | 114 => ⟨S256, .f32⟩
  | 115 => ⟨S_, .i32⟩
  | 116 => ⟨S_, .f32⟩
  | 117 => ⟨S256, .f32⟩
  | 118 => ⟨S1x256, .f32⟩
  | 119 => ⟨S_, .f32⟩
  | 120 => ⟨S1x256, .f32⟩
  | 121 => ⟨S1x256, .f32⟩
  | 122 => ⟨S16384x256, .f32⟩
  | 123 => ⟨S16384x256, .f32⟩
  | 124 => ⟨S16384x256, .f32⟩
  | 125 => ⟨S_, .f32⟩
  | 126 => ⟨S_, .f32⟩
  | 127 => ⟨S_, .f32⟩
  | _ => ⟨S16384x128, .f32⟩

abbrev hbmTy0_1 (i : Nat) : BufTy := match i % 128 with
  | 0 => ⟨S_, .f32⟩
  | 1 => ⟨S256, .f32⟩
  | 2 => ⟨S256, .f32⟩
  | 3 => ⟨S256, .f32⟩
  | 4 => ⟨S_, .f32⟩
  | 5 => ⟨S_, .i1⟩
  | 6 => ⟨S_, .f32⟩
  | 7 => ⟨S_, .f32⟩
  | 8 => ⟨S256, .f32⟩
  | 9 => ⟨S256, .f32⟩
  | 10 => ⟨S1x256, .f32⟩
  | 11 => ⟨S16384x256, .f32⟩
  | 12 => ⟨S16384x256, .f32⟩
  | 13 => ⟨S_, .f32⟩
  | 14 => ⟨S256, .f32⟩
  | 15 => ⟨S256, .f32⟩
  | 16 => ⟨S256, .f32⟩
  | 17 => ⟨S1x256, .f32⟩
  | 18 => ⟨S16384x256, .f32⟩
  | 19 => ⟨S16384x256, .f32⟩
  | 20 => ⟨S1x256, .f32⟩
  | 21 => ⟨S16384x256, .f32⟩
  | 22 => ⟨S16384x256, .f32⟩
  | 23 => ⟨S1x256, .f32⟩
  | 24 => ⟨S16384x256, .f32⟩
  | 25 => ⟨S16384x256, .f32⟩
  | 26 => ⟨S_, .f32⟩
  | 27 => ⟨S16384x256, .f32⟩
  | 28 => ⟨S16384x256, .i1⟩
  | 29 => ⟨S_, .f32⟩
  | 30 => ⟨S16384x256, .f32⟩
  | 31 => ⟨S16384x256, .f32⟩
  | 32 => ⟨S16384x256, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_call0_v0 : Ref sig .tc := ⟨.hbm, 22, rfl⟩
abbrev main_call0_v1_0 : Ref sig .tc := ⟨.hbm, 23, rfl⟩
abbrev main_v10 : Ref sig .tc := ⟨.hbm, 24, rfl⟩
abbrev main_call1_v0 : Ref sig .tc := ⟨.hbm, 25, rfl⟩
abbrev main_call1_v1_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_1 : Ref sig .tc := ⟨.hbm, 38, rfl⟩
abbrev main_v20 : Ref sig .tc := ⟨.hbm, 39, rfl⟩
abbrev main_v21 : Ref sig .tc := ⟨.hbm, 40, rfl⟩
abbrev main_c_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_c_5 : Ref sig .tc := ⟨.hbm, 60, rfl⟩
abbrev main_call2_cst : Ref sig .tc := ⟨.hbm, 61, rfl⟩
abbrev main_call2_v0 : Ref sig .tc := ⟨.hbm, 62, rfl⟩
abbrev main_call2_v1 : Ref sig .tc := ⟨.hbm, 63, rfl⟩
abbrev main_call2_cst_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_cst_1 : Ref sig .tc := ⟨.hbm, 71, rfl⟩
abbrev main_call2_v8 : Ref sig .tc := ⟨.hbm, 72, rfl⟩
abbrev main_call2_cst_2 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_cst_3 : Ref sig .tc := ⟨.hbm, 77, rfl⟩
abbrev main_call2_v12 : Ref sig .tc := ⟨.hbm, 78, rfl⟩
abbrev main_call2_cst_4 : Ref sig .tc := ⟨.hbm, 79, rfl⟩
abbrev main_call2_call0_v0 : Ref sig .tc := ⟨.hbm, 80, rfl⟩
abbrev main_call2_call0_v1 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst_6 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_cst_7 : Ref sig .tc := ⟨.hbm, 99, rfl⟩
abbrev main_v54 : Ref sig .tc := ⟨.hbm, 100, rfl⟩
abbrev main_v55 : Ref sig .tc := ⟨.hbm, 101, rfl⟩
abbrev main_cst_8 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst_9 : Ref sig .tc := ⟨.hbm, 110, rfl⟩
abbrev main_v63 : Ref sig .tc := ⟨.hbm, 111, rfl⟩
abbrev main_cst_10 : Ref sig .tc := ⟨.hbm, 112, rfl⟩
abbrev main_v64 : Ref sig .tc := ⟨.hbm, 113, rfl⟩
abbrev main_v65 : Ref sig .tc := ⟨.hbm, 114, rfl⟩
abbrev main_c_11 : Ref sig .tc := ⟨.hbm, 115, rfl⟩
abbrev main_call4_cst : Ref sig .tc := ⟨.hbm, 116, rfl⟩
abbrev main_call4_v0 : Ref sig .tc := ⟨.hbm, 117, rfl⟩
abbrev main_call4_v1 : Ref sig .tc := ⟨.hbm, 118, rfl⟩
abbrev main_call4_cst_0 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_call4_v5 : Ref sig .tc := ⟨.hbm, 123, rfl⟩
abbrev main_call4_v6 : Ref sig .tc := ⟨.hbm, 124, rfl⟩
abbrev main_call4_v7 : Ref sig .tc := ⟨.hbm, 125, rfl⟩
abbrev main_call4_cst_1 : Ref sig .tc := ⟨.hbm, 126, rfl⟩
abbrev main_call4_v8 : Ref sig .tc := ⟨.hbm, 127, rfl⟩
abbrev main_call4_cst_2 : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_call4_cst_3 : Ref sig .tc := ⟨.hbm, 132, rfl⟩
abbrev main_call4_v12 : Ref sig .tc := ⟨.hbm, 133, rfl⟩
abbrev main_call4_cst_4 : Ref sig .tc := ⟨.hbm, 134, rfl⟩
abbrev main_call4_call0_v0 : Ref sig .tc := ⟨.hbm, 135, rfl⟩
abbrev main_call4_call0_v1 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_cst_12 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_cst_13 : Ref sig .tc := ⟨.hbm, 154, rfl⟩
abbrev main_v82 : Ref sig .tc := ⟨.hbm, 155, rfl⟩
abbrev main_v83 : Ref sig .tc := ⟨.hbm, 156, rfl⟩
abbrev main_cst_14 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩

abbrev nD : Nat := 1
abbrev τ : Topo := Topo.v7x

variable {F : FTy → Type} [FloatOps F]
-- ==== Proof.KernelRun.lean ====
/- A run of the kernel's program ends with every array of the program at the contents the last stage leaves. -/
module

public import proofs.«01_k».proof.Proof.Gen.KernelIdeal.Frame
public import Idealize.ShloMosaic.PureOps.Ideal

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable (m : (ℓ : Loc nD τ sig) → Buf (Elt Ideal) ℓ) (ρ : Dev nD → PrngReg)

local notation "Res" => MT nD τ sig Unit (Elt Ideal) ℕ (UR sig nD τ) ℕ

/-- The ghost state the launch starts from: the cells of the three pipelines and their tokens. -/
def ghost₀ : UR sig nD τ := initOf (Pipeline.cells cfgs cellOf_inj) (Pipeline.launchToks cfgs cellOf_inj)

/-- A device's share at launch: its arrays as the memory has them, its random state, and no debt. -/
def atLaunch (c : Dev nD) : sProp Res :=
  iprop(StableHlo.held (c : Thread nD τ) (Pipeline.ucRefs τ sig) (W0 m ρ c) ∗ R c)

/-- The ghost state is the pipelines' and nothing beside it. -/
theorem ghost_split : (ownU ghost₀ : sProp Res)
    ⊢ |={Set.univ}=> iprop(BI.own (emb₁ ghost₀) ∗ bigSep Finset.univ (fun _ : Dev nD => (iprop(emp) : sProp Res))) := by
  have hg : (ownU ghost₀ : sProp Res) ⊢ BI.own (emb₁ ghost₀) := .rfl
  have he : (BI.emp : sProp Res) ⊢ bigSep Finset.univ (fun _ : Dev nD => (BI.emp : sProp Res)) := by
    rw [BI.bigSep_emp_const]
  iintro H
  imodintro
  isplitl [H]
  · iapply hg
    iexact H
  iapply he
  iempintro

/-- What a device holds at the end, read in the final memory. -/
theorem read_end (c : Dev nD) (s : Phys nD τ sig (Elt Ideal)) :
    (iprop(Tₙ m ρ c ∗ SI s) : sProp Res)
      ⊢ |={Set.univ}=> iprop(⌜∀ b ∈ Pipeline.ucRefs τ sig, s.mem.mem (((c : Thread nD τ)).1, b) = W6 m ρ c b⌝ ∗ SI s) := by
  have hr := pointsTo_read_all (Pipeline.ucRefs τ sig) (fun b => (((c : Thread nD τ)).1, b)) (W6 m ρ c) s
    (Ix := Unit) (Name := ℕ) (U := UR sig nD τ) (Lvl := ℕ)
  iintro ⟨⟨Hh, -⟩, HS⟩
  unfold StableHlo.held
  imodintro
  iapply hr
  isplitl [Hh] <;> iassumption

set_option backward.isDefEq.respectTransparency.types false in
/-- Every run of the kernel's program ends, without a fault, with every array at the contents after the last stage. -/
theorem kernel_run : θ_run defs (onTc (τ := τ) (main (F := Ideal))) ⟨m, fun _ => 0, ρ⟩
    (fun r => ∀ c : Dev nD, ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (hmain := fun c Q => by rw [main_run m ρ c])
    (hnd := by simp only [segs, Pipeline.Seg.pipes_host, Pipeline.Seg.pipes_region, Pipeline.Seg.pipes_nil]; decide)
    (O₀ := 0) (hL := fun _ _ => rfl) (G := fun _ => iprop(emp)) (u₀ := ghost₀) (hu₀ := ghost_split)
    (T₀ := atLaunch m ρ) (Tₙ := Tₙ m ρ)
    (hch := ⟨fun _ => .rfl, fun _ => .rfl, fun _ => .rfl, fun _ => .rfl, fun _ => .rfl, fun _ => .rfl, fun _ => .rfl⟩)
    (hinit := Pipeline.initEach L lv fun c => by
      have hu : unscopedBufs c (fun b => m ((c : Thread nD τ).loc b))
          = (StableHlo.held (c : Thread nD τ) (Pipeline.ucRefs τ sig) (W0 m ρ c) : sProp Res) :=
        Pipeline.unscopedBufs_held c (W0 m ρ c)
      rw [hu]
      unfold atLaunch
      iintro ⟨⟨Hh, -, HO, -, Hp, -⟩, -⟩
      imodintro
      isplitl [Hh]
      · iexact Hh
      isplitl [Hp]
      · iexists _
        iexact Hp
      · iexists ∅
        iexact HO)
    (QY := fun c s => ∀ b ∈ Pipeline.ucRefs τ sig, s.mem (((c : Thread nD τ)).1, b) = W6 m ρ c b)
    (hfin := read_end m ρ) (hQ := fun _ h _ => h)

end Cert.Proof

end
-- ==== Proof.BlockB.lean ====
/- What a point of the second stage leaves in its output buffers. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Proof

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b)) (c : Dev nD)

/-- The second linear layer on the rows of a point's block. -/
def layerB (t : Fin cfg1.N) : FVec Ideal S512x256 .f32 :=
  k1_pay5 (F := Ideal) (iblk1 V c 1 t) (iblk1 V c 2 t) (iblk1 V c 3 t) (iblk1 V c 0 t) (iblk1 V c 4 t) (iblk1 V c 5 t) (iblk1 V c 6 t)

/-- The block a point of the second stage leaves, and the running column sums: zeroed at the first point, added into at
    the others. -/
theorem outs1 (t : Fin cfg1.N) :
    (t.val % 32 = 0 → outsAt1 V c t.val t.isLt =
      (layerB V c t, k1_pay3 (layerB V c t) (k1_pay1 (F := Ideal)), k1_pay4 (layerB V c t) (k1_pay2 (F := Ideal))))
    ∧ (¬ t.val % 32 = 0 → outsAt1 V c t.val t.isLt =
      (layerB V c t, k1_pay3 (layerB V c t) (outsAt1 V c (t.val - 1) (by omega)).2.1,
        k1_pay4 (layerB V c t) (outsAt1 V c (t.val - 1) (by omega)).2.2)) := by
  constructor <;> intro h
  · rw [outsAt1_A V c t h]
    frame_out
    rfl
  · rw [outsAt1_B V c t h]
    frame_out
    rfl

end Cert.Proof

end
-- ==== Proof.Norm.lean ====
/- The normalisation of a column over the extended reals, in the two forms the programs write it.
   One form takes the mean and the mean of the squared deviations, and divides by the square root. The other takes the
   sum and the sum of squares, gets the variance as the mean of the squares less the squared mean, and multiplies by the
   reciprocal square root. On a column of finite entries they agree, whatever the scale and the shift are. -/
module

public import Idealize.ShloMosaic.PureOps.Ideal

@[expose] public section

noncomputable section

namespace Cert.Proof

open Idealize.ShloMosaic

/-- An extended real that is a real number. -/
def IsReal (x : EReal) : Prop := ∃ r : ℝ, x = (r : EReal)

/-- The number of rows, 16384. -/
def rows : EReal := Ideal.ofBits .f32 0x46800000#32

/-- The constant added to a variance, the float nearest 1e-5. -/
def eps : EReal := Ideal.ofBits .f32 0x3727C5AC#32

/-- The slope of the leaky rectifier below zero, the float nearest 0.01. -/
def slope : EReal := Ideal.ofBits .f32 0x3C23D70A#32

/-- The literal of the number of rows is 16384. -/
theorem rows_eq : rows = ((16384 : ℝ) : EReal) := by
  simp [rows, Ideal.ofBits, Ideal.ieee, -EReal.coe_mul]; norm_num

/-- The literal added to the variance is a positive real. -/
theorem eps_pos : ∃ e : ℝ, 0 < e ∧ eps = (e : EReal) := by
  simp [eps, Ideal.ofBits, Ideal.ieee, -EReal.coe_mul]

/-- The rectifier's slope is a real. -/
theorem slope_fin : IsReal slope := by
  simp [IsReal, slope, Ideal.ofBits, Ideal.ieee, -EReal.coe_mul]

namespace IsReal

/-- A real is a real among the extended reals. -/
theorem coe (r : ℝ) : IsReal (r : EReal) := ⟨r, rfl⟩

/-- A sum of two reals is a real. -/
theorem add {x y : EReal} : IsReal x → IsReal y → IsReal (x + y) := by
  rintro ⟨a, rfl⟩ ⟨b, rfl⟩; exact ⟨a + b, by simp⟩

/-- A difference of two reals is a real. -/
theorem sub {x y : EReal} : IsReal x → IsReal y → IsReal (x - y) := by
  rintro ⟨a, rfl⟩ ⟨b, rfl⟩; exact ⟨a - b, by simp⟩

/-- A product of two reals is a real. -/
theorem mul {x y : EReal} : IsReal x → IsReal y → IsReal (x * y) := by
  rintro ⟨a, rfl⟩ ⟨b, rfl⟩; exact ⟨a * b, by simp⟩

/-- A finite sum of reals is a real. -/
theorem sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

end IsReal

/-- A finite sum of reals is the same among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The leaky rectifier. -/
def lrelu (x : EReal) : EReal := if 0 ≤ x then x else slope * x

/-- The rectifier takes reals to reals. -/
theorem lrelu_fin {x : EReal} (h : IsReal x) : IsReal (lrelu x) := by
  unfold lrelu; split
  · exact h
  · exact slope_fin.mul h

/-- The mean of a column. -/
def mean {n : ℕ} (y : Fin n → EReal) : EReal := Ideal.div (∑ i, y i) rows

/-- The mean of the squared deviations from the mean. -/
def var {n : ℕ} (y : Fin n → EReal) : EReal := Ideal.div (∑ i, (y i - mean y) * (y i - mean y)) rows

/-- An entry normalised by mean and variance, scaled and shifted. -/
def norm {n : ℕ} (y : Fin n → EReal) (g b : EReal) (i : Fin n) : EReal :=
  Ideal.div (y i - mean y) (Ideal.sqrt (var y + eps)) * g + b

/-- An entry normalised from the column's sum `s` and its sum of squares `q`. -/
def normSums (s q y g b : EReal) : EReal :=
  (y - Ideal.div s rows) * (g * Ideal.rsqrt (Ideal.div q rows - Ideal.div s rows * Ideal.div s rows + eps)) + b

/-- A real divided by the number of rows. -/
theorem div_rows (a : ℝ) : Ideal.div (a : EReal) rows = ((a / 16384 : ℝ) : EReal) := by
  rw [rows_eq, Ideal.div, if_neg (by norm_num), ← EReal.coe_inv, ← EReal.coe_mul]
  rfl

/-- The mean of the squared deviations is the mean of the squares less the squared mean. -/
theorem var_eq (y : Fin 16384 → ℝ) :
    (∑ i, (y i - (∑ i, y i) / 16384) * (y i - (∑ i, y i) / 16384)) / 16384
      = (∑ i, y i * y i) / 16384 - (∑ i, y i) / 16384 * ((∑ i, y i) / 16384) := by
  set m := (∑ i, y i) / 16384 with hm
  have h : ∑ i, (y i - m) * (y i - m) = (∑ i, y i * y i) - 2 * m * (∑ i, y i) + 16384 * (m * m) := by
    have : ∀ i, (y i - m) * (y i - m) = y i * y i - 2 * m * y i + m * m := fun i => by ring
    simp only [this, Finset.sum_add_distrib, Finset.sum_sub_distrib, ← Finset.mul_sum, Finset.sum_const,
      Finset.card_univ, Fintype.card_fin, nsmul_eq_mul]
    push_cast
    ring
  have hs : ∑ i, y i = 16384 * m := by rw [hm]; ring
  rw [h, hs]; ring

/-- On a finite column the two forms of the normalisation agree. -/
theorem normSums_eq (y : Fin 16384 → EReal) (hy : ∀ i, IsReal (y i)) (g b : EReal) (i : Fin 16384) :
    normSums (∑ i, y i) (∑ i, y i * y i) (y i) g b = norm y g b i := by
  choose r hr using hy
  obtain rfl : y = fun i => (r i : EReal) := funext hr
  obtain ⟨e, he, hE⟩ := eps_pos
  have hmean : mean (fun i => (r i : EReal)) = (((∑ i, r i) / 16384 : ℝ) : EReal) := by
    rw [mean, coe_sum, div_rows]
  have hvar : var (fun i => (r i : EReal))
      = (((∑ i, r i * r i) / 16384 - (∑ i, r i) / 16384 * ((∑ i, r i) / 16384) : ℝ) : EReal) := by
    rw [← var_eq, var, hmean]
    simp only [← EReal.coe_sub, ← EReal.coe_mul]
    rw [coe_sum, div_rows]
  have hv0 : 0 ≤ (∑ i, r i * r i) / 16384 - (∑ i, r i) / 16384 * ((∑ i, r i) / 16384) := by
    rw [← var_eq]
    exact div_nonneg (Finset.sum_nonneg fun i _ => mul_self_nonneg _) (by norm_num)
  rw [norm, normSums, hvar, hmean, hE]
  simp only [← EReal.coe_mul]
  rw [coe_sum, coe_sum, div_rows, div_rows]
  simp only [← EReal.coe_mul, ← EReal.coe_sub, ← EReal.coe_add]
  generalize (∑ i, r i * r i) / 16384 - (∑ i, r i) / 16384 * ((∑ i, r i) / 16384) = v at hv0
  have hpos : 0 < v + e := by linarith
  have hsq : 0 < Real.sqrt (v + e) := Real.sqrt_pos.mpr hpos
  rw [Ideal.sqrt_coe, Ideal.rsqrt_coe, if_neg (not_lt.mpr hpos.le), if_neg (not_lt.mpr hpos.le), if_neg hpos.ne',
    Ideal.div, if_neg (by exact_mod_cast hsq.ne'), ← EReal.coe_inv, mul_comm g, mul_assoc]

/-- A finite column normalised with a finite scale and shift is finite. -/
theorem norm_fin (y : Fin 16384 → EReal) (hy : ∀ i, IsReal (y i)) {g b : EReal} (hg : IsReal g) (hb : IsReal b) (i : Fin 16384) :
    IsReal (norm y g b i) := by
  have hm : ∀ {x : EReal}, IsReal x → IsReal (Ideal.div x rows) := by
    rintro x ⟨r, rfl⟩; exact ⟨_, div_rows r⟩
  rw [← normSums_eq y hy]
  obtain ⟨s, hs⟩ := IsReal.sum Finset.univ hy
  choose r hr using hy
  obtain rfl : y = fun i => (r i : EReal) := funext hr
  obtain ⟨e, he, hE⟩ := eps_pos
  have hv0 : 0 ≤ (∑ i, r i * r i) / 16384 - (∑ i, r i) / 16384 * ((∑ i, r i) / 16384) := by
    rw [← var_eq]
    exact div_nonneg (Finset.sum_nonneg fun i _ => mul_self_nonneg _) (by norm_num)
  rw [normSums, hE]
  simp only [← EReal.coe_mul]
  rw [coe_sum, coe_sum, div_rows, div_rows]
  simp only [← EReal.coe_mul, ← EReal.coe_sub, ← EReal.coe_add]
  generalize (∑ i, r i * r i) / 16384 - (∑ i, r i) / 16384 * ((∑ i, r i) / 16384) = v at hv0
  have hpos : 0 < v + e := by linarith
  rw [Ideal.rsqrt_coe, if_neg (not_lt.mpr hpos.le), if_neg hpos.ne']
  exact ((IsReal.coe _).mul (hg.mul (IsReal.coe _))).add hb

end Cert.Proof

end
-- ==== Proof.PayBC.lean ====
/- The payloads of the second and the third stage, read at an index. -/
module

public import proofs.«01_k».proof.Proof.Gen.KernelIdeal.Skeleton
public import proofs.«01_k».proof.Proof.Norm
public import Idealize.ShloMosaic.Lib.Pointwise

@[expose] public section

set_option maxRecDepth 16384

noncomputable section

namespace Cert.Proof

open Idealize.ShloMosaic Idealize.ShloMosaic.TcCoe Idealize.SL.Sem
open Cert.KernelIdeal Cert.KernelIdeal.Gen

/-- The rectifier, however the comparison is decided. -/
theorem lrelu_ite (x : EReal) (d : Decidable (0 ≤ x)) : @ite _ (0 ≤ x) d x (slope * x) = lrelu x := by
  unfold lrelu
  congr

/-- The second linear layer on a block of rows, normalised and rectified from the column sums. -/
theorem k1_pay5_apply (s q g : FVec Ideal S1x512 .f32) (y : FVec Ideal S512x512 .f32) (be : FVec Ideal S1x512 .f32)
    (w : FVec Ideal S512x256 .f32) (b : FVec Ideal S1x256 .f32) (i : Fin 512) (o : Fin 256) :
    k1_pay5 (F := Ideal) s q g y be w b (ix2 i o)
      = (∑ l, lrelu (normSums (s (ix2 0 l)) (q (ix2 0 l)) (y (ix2 i l)) (g (ix2 0 l)) (be (ix2 0 l))) * w (ix2 l o))
        + b (ix2 0 o) := by
  pointwise [k1_pay5]
  refine congrArg (· + b (ix2 0 o)) (Finset.sum_congr rfl fun l _ => congrArg (· * w (ix2 l o)) (lrelu_ite _ _))

/-- The running column sum takes the block's. -/
theorem k1_pay3_apply (y : FVec Ideal S512x256 .f32) (s : FVec Ideal S1x256 .f32) (o : Fin 256) :
    k1_pay3 (F := Ideal) y s (ix2 0 o) = s (ix2 0 o) + ∑ i, y (ix2 i o) := by
  pointwise [k1_pay3]

/-- The running column sum of squares takes the block's. -/
theorem k1_pay4_apply (y : FVec Ideal S512x256 .f32) (s : FVec Ideal S1x256 .f32) (o : Fin 256) :
    k1_pay4 (F := Ideal) y s (ix2 0 o) = s (ix2 0 o) + ∑ i, y (ix2 i o) * y (ix2 i o) := by
  pointwise [k1_pay4]

/-- The column sums of the second layer start at zero. -/
theorem k1_pay1_apply (o : Fin 256) : k1_pay1 (F := Ideal) (ix2 0 o) = 0 := by
  pointwise [k1_pay1]

/-- The column sums of squares of the second layer start at zero. -/
theorem k1_pay2_apply (o : Fin 256) : k1_pay2 (F := Ideal) (ix2 0 o) = 0 := by
  pointwise [k1_pay2]

/-- The output block: rows normalised and rectified from the column sums. -/
theorem k2_pay1_apply (s q g : FVec Ideal S1x256 .f32) (y : FVec Ideal S512x256 .f32) (be : FVec Ideal S1x256 .f32)
    (i : Fin 512) (o : Fin 256) :
    k2_pay1 (F := Ideal) s q g y be (ix2 i o)
      = lrelu (normSums (s (ix2 0 o)) (q (ix2 0 o)) (y (ix2 i o)) (g (ix2 0 o)) (be (ix2 0 o))) := by
  pointwise [k2_pay1]
  exact lrelu_ite _ _

end Cert.Proof

end
-- ==== Proof.Rank.lean ====
/- The position of an entry in a stable sort of its row, counted.
   `argsort` of a row gives the sorting permutation, and `argsort` of that its inverse: entry `j` of the second is the
   position at which the first sort puts `j`. That position is a count: how many entries sort before `j`, those with a
   smaller key and those with the same key at a smaller index. -/
module

public import Idealize.ShloMosaic.Lib.SortPrefix

@[expose] public section

namespace Cert.Proof

open Idealize.ShloMosaic

variable {n : ℕ} {α : Type} [LinearOrder α]

/-- `k` sorts before `j`: a smaller key, or the same key at a smaller index. -/
def sortsBefore (d : Fin n → α) (k j : Fin n) : Prop := d k < d j ∨ (d k = d j ∧ k < j)

/-- Whether one entry sorts before another is decidable. -/
instance (d : Fin n → α) (k j : Fin n) : Decidable (sortsBefore d k j) := by unfold sortsBefore; infer_instance

/-- How many entries of the row sort before entry `j`. -/
def rank (d : Fin n → α) (j : Fin n) : ℕ := (Finset.univ.filter fun k => sortsBefore d k j).card

/-- A rank is less than the length of the row. -/
theorem rank_lt (d : Fin n → α) (j : Fin n) : rank d j < n := by
  have h : (Finset.univ.filter fun k => sortsBefore d k j) ⊂ Finset.univ := by
    refine Finset.filter_ssubset.mpr ⟨j, Finset.mem_univ _, ?_⟩
    simp [sortsBefore]
  simpa [rank] using Finset.card_lt_card h

/-- An insertion sort that compares keys alone sorts an increasing list of indices as one that breaks ties by the index. -/
theorem stableSort_ties (d : Fin n → α) (l : List (Fin n)) (hl : l.Pairwise (· < ·)) :
    stableSort (fun k k' => decide (d k < d k')) l = stableSort (fun k k' => decide (sortsBefore d k k')) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    have : ¬b < a := not_lt.mpr hab.le
    simp [sortsBefore, this]

/-- A stable sort by the values is the sort by the values and then by the positions. -/
theorem sortedFrom_ties (d : Fin n → α) :
    sortedFrom (fun k k' => decide (d k < d k')) = sortedFrom (fun k k' => decide (sortsBefore d k k')) := by
  funext k
  unfold sortedFrom
  rw [List.get_of_eq (show sortPositions n (fun k k' => decide (d k < d k')) = sortPositions n (fun k k' => decide (sortsBefore d k k'))
    from stableSort_ties d _ (List.pairwise_lt_finRange n))]
  rfl

/-- The order by values and then by positions is strict and total. -/
theorem sortsBefore_total (d : Fin n → α) : StrictTotalBefore fun k k' : Fin n => decide (sortsBefore d k k') := by
  have h := StrictTotalBefore.of_key_then_position (fun a b : α => decide (a < b)) d (by simp)
    (fun a b c h h' => by simp only [decide_eq_true_eq] at *; exact h.trans h')
    (fun a b => by simpa using lt_trichotomy a b)
  convert h using 3
  rw [Bool.eq_iff_iff]
  simp only [sortsBefore, Bool.or_eq_true, Bool.and_eq_true, decide_eq_true_eq]
  exact decide_eq_true_iff

/-- The sorting permutation of a row. -/
def order (d : Fin n → α) : Fin n → Fin n := sortedFrom fun k k' => decide (d k < d k')

/-- The sort is a permutation. -/
theorem order_bijective (d : Fin n → α) : Function.Bijective (order d) :=
  ⟨sortedFrom_injective _, sortedFrom_surjective _⟩

/-- The permutation lists the entries in the order `sortsBefore`. -/
theorem sortsBefore_order (d : Fin n → α) (a b : Fin n) : sortsBefore d (order d a) (order d b) ↔ a < b := by
  have hT := sortsBefore_total d
  have hlt : ∀ a b : Fin n, a < b → sortsBefore d (order d a) (order d b) := fun a b hab => by
    have h := sortedFrom_noInversion (fun k k' => decide (sortsBefore d k k')) (fun k k' => decide (sortsBefore d k k'))
      (fun a b h => hT.asymm a b h) (fun _ _ h => h) hT.negTrans a b hab
    rw [← sortedFrom_ties d] at h
    have hne : order d a ≠ order d b := fun e => hab.ne ((order_bijective d).1 e)
    rcases hT.total _ _ hne with h' | h'
    · simpa using h'
    · exact absurd (h.symm.trans h') (by decide)
  refine ⟨fun h => ?_, hlt a b⟩
  rcases lt_trichotomy a b with h' | rfl | h'
  · exact h'
  · exact absurd h (by simp [sortsBefore])
  · have := hT.asymm _ _ (decide_eq_true (hlt b a h'))
    exact absurd h (by simpa using this)

/-- The entry at sorted position `b` has rank `b`. -/
theorem rank_order (d : Fin n → α) (b : Fin n) : rank d (order d b) = b.val := by
  have : (Finset.univ.filter fun k => sortsBefore d k (order d b)) = (Finset.univ.filter fun a : Fin n => a < b).image (order d) := by
    ext k
    obtain ⟨a, rfl⟩ := (order_bijective d).2 k
    simp only [Finset.mem_filter, Finset.mem_univ, true_and, Finset.mem_image, sortsBefore_order]
    exact ⟨fun h => ⟨a, h, rfl⟩, fun ⟨a', h, e⟩ => (order_bijective d).1 e ▸ h⟩
  rw [rank, this, Finset.card_image_of_injective _ (order_bijective d).1]
  rw [show (Finset.univ.filter fun a : Fin n => a < b) = Finset.Iio b by ext; simp, Fin.card_Iio]

/-- Sorting the sorting permutation inverts it: entry `j` of the second argsort is the rank of `j`. -/
theorem order_order (d : Fin n → α) (j : Fin n) : (order (order d) j).val = rank d j := by
  obtain ⟨b, rfl⟩ := (order_bijective d).2 j
  have h : order d (order (order d) (order d b)) = order d b := by
    have hmono : StrictMono fun a => order d (order (order d) a) := fun a a' h => by
      have := (sortsBefore_order (order d) a a').mpr h
      rcases this with this | ⟨e, h'⟩
      · exact this
      · exact absurd ((order_bijective d).1 e) h'.ne
    have hid : ∀ a, order d (order (order d) a) = a := by
      have : Function.Bijective fun a => order d (order (order d) a) := (order_bijective d).comp (order_bijective (order d))
      intro a
      have e := (Subsingleton.elim (hmono.orderIsoOfSurjective _ this.2) (OrderIso.refl (Fin n)))
      exact congrArg (fun f : Fin n ≃o Fin n => f a) e
    exact hid _
  rw [(order_bijective d).1 h, rank_order]

end Cert.Proof
-- ==== Proof.Column.lean ====
/- One column block of the gathered features: the rank of a neighbour, and the row its one-hot product picks. -/
module

public import proofs.«01_k».proof.Proof.Gen.KernelIdeal.Skeleton
public import proofs.«01_k».proof.Proof.Rank
public import proofs.«01_k».proof.Proof.Norm
public import Idealize.ShloMosaic.Lib.Pointwise

@[expose] public section

set_option maxRecDepth 16384

noncomputable section

namespace Cert.Proof

open Idealize.ShloMosaic Idealize.ShloMosaic.TcCoe Idealize.SL.Sem
open Cert.KernelIdeal Cert.KernelIdeal.Gen

/-- The column block of slot `j` as the kernel computes it from the distances `d`: `w` is the word of `j` as a float. -/
def slot (j : ℕ) (hs : S256x64.Slices ![0, j] S256x1) (w : BitVec 32) (d : FVec Ideal S256x64 .f32)
    (kidx : FVec Ideal S256x64 .f32) (grp : FVec Ideal S256x1 .f32) (lane : FVec Ideal S256x256 .f32)
    (h : FVec Ideal S256x128 .f32) : FVec Ideal S256x128 .f32 :=
  let dj : FVec Ideal S256x64 .f32 := broadcastTo S256x64 (extractStridedSlice S256x1 ![0, j] d hs) broadcasts_S256x1_S256x64
  let before : IVec S256x64 1 :=
    ori (cmpf .olt d dj) (andi (cmpf .oeq d dj) (cmpf .olt kidx (broadcast S256x64 (Scalar.ofBits (F := Ideal) .f32 w))))
  let cnt : FVec Ideal S256 .f32 := multiReduction .add [1] S256 (sitofp .f32 (extui 32 before natLt_1_32) : FVec Ideal S256x64 .f32)
    0x00000000#32 reduces_S256x64_S256 (.inl rfl) rfl
  let pos : FVec Ideal S256x1 .f32 := addf (shapeCast S256x1 cnt shapeCasts_S256_S256x1) grp
  let oh : FVec Ideal S256x256 .f32 := sitofp .f32 (extui 32 (cmpf .oeq lane (broadcastTo S256x256 pos broadcasts_S256x1_S256x256)) natLt_1_32)
  matmul dot_S256x256_S256x128_S256x128_1_0_0_1_n_n none oh h (constant S256x128 .f32 0x00000000#32)

/-- The words of 0, 1, …, 15 as floats. -/
def slotWord : Fin 16 → BitVec 32 :=
  ![0x00000000#32, 0x3F800000#32, 0x40000000#32, 0x40400000#32, 0x40800000#32, 0x40A00000#32, 0x40C00000#32, 0x40E00000#32,
    0x41000000#32, 0x41100000#32, 0x41200000#32, 0x41300000#32, 0x41400000#32, 0x41500000#32, 0x41600000#32, 0x41700000#32]

/-- The literal that stands for a slot's number is that number. -/
theorem slotWord_val (j : Fin 16) : Ideal.ofBits .f32 (slotWord j) = ((j.val : ℝ) : EReal) := by
  fin_cases j <;> (simp [slotWord, Ideal.ofBits, Ideal.ieee, -EReal.coe_mul] <;> norm_num)

/-- A truth value counted as a float: one or zero. -/
theorem sitofp_ofBool (b : Bool) :
    FloatOps.sitofp (F := Ideal) .f32 (BitVec.setWidth 32 (BitVec.ofBool b)) = if b then (1 : EReal) else 0 := by
  cases b
  · show (((BitVec.setWidth 32 (BitVec.ofBool false)).toInt : ℝ) : EReal) = 0
    simp
  · show (((BitVec.setWidth 32 (BitVec.ofBool true)).toInt : ℝ) : EReal) = 1
    simp

/-- The comparison words of "sorts before", as one truth value. -/
theorem before_word (a b c : Bool) :
    IntOp.ori (BitVec.ofBool a) (IntOp.andi (BitVec.ofBool b) (BitVec.ofBool c)) = BitVec.ofBool (a || (b && c)) := by
  cases a <;> cases b <;> cases c <;> rfl

/-- A small number written as a word and converted to a float is that number. -/
theorem sitofp_ofNat (n : ℕ) (h : n < 2 ^ 31) : FloatOps.sitofp (F := Ideal) .f32 (BitVec.ofNat 32 n) = ((n : ℝ) : EReal) := by
  show (((BitVec.ofNat 32 n).toInt : ℝ) : EReal) = _
  have : (BitVec.ofNat 32 n).toInt = (n : ℤ) := by
    rw [BitVec.toInt_ofNat']
    simp [Int.bmod]; omega
  rw [this]; simp

/-- The word the kernel forms for the first row of a row's group. -/
theorem grp_word : ∀ i : Fin 256, IntOp.muli
        (Scalar.select
          (IntOp.andi
            (IntOp.cmpi CmpIPredicate.ne
              (IntOp.subi (BitVec.setWidth 32 (IntOp.cmpi CmpIPredicate.sgt (BitVec.ofNat 32 i.val) 0#32))
                (BitVec.setWidth 32 (IntOp.cmpi CmpIPredicate.slt (BitVec.ofNat 32 i.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 i.val) 64#32) 0#32))
          (IntOp.subi (IntOp.divsi ArithUnit.vector (BitVec.ofNat 32 i.val) 64#32) 1#32)
          (IntOp.divsi ArithUnit.vector (BitVec.ofNat 32 i.val) 64#32))
        64#32 = BitVec.ofNat 32 (i.val / 64 * 64) := by
  decide +kernel

/-- The first row of a row's group, as the kernel holds it. -/
theorem grp_apply (i : Fin 256) : k0_pay18 (F := Ideal) k0_pay15 k0_pay16 k0_pay17 (ix2 i 0) = ((i.val / 64 * 64 : ℕ) : ℝ) := by
  pointwise [k0_pay18, k0_pay15, k0_pay16, k0_pay17]
  rw [grp_word]
  exact sitofp_ofNat _ (by omega)

/-- The lane numbers. -/
theorem lane_apply (i k : Fin 256) : k0_pay19 (F := Ideal) (ix2 i k) = ((k.val : ℝ) : EReal) := by
  pointwise [k0_pay19]
  exact sitofp_ofNat _ (by omega)

/-- The neighbour numbers. -/
theorem kidx_apply (i : Fin 256) (k : Fin 64) : k0_pay14 (F := Ideal) (ix2 i k) = ((k.val : ℝ) : EReal) := by
  pointwise [k0_pay14]
  exact sitofp_ofNat _ (by omega)

/-- The column block of slot `j` holds, in row `i`, the features at the place in its group that `j` has among the
    distances of row `i`. -/
theorem slot_apply (j : ℕ) (hj : j < 64) (hs : S256x64.Slices ![0, j] S256x1) (w : BitVec 32)
    (hw : Ideal.ofBits .f32 w = ((j : ℝ) : EReal)) (d : FVec Ideal S256x64 .f32) (h : FVec Ideal S256x128 .f32)
    (i : Fin 256) (c : Fin 128) :
    slot j hs w d k0_pay14 (k0_pay18 k0_pay15 k0_pay16 k0_pay17) k0_pay19 h (ix2 i c)
      = h (ix2 ⟨i.val / 64 * 64 + rank (fun k : Fin 64 => d (ix2 i k)) ⟨j, hj⟩,
          by have := rank_lt (fun k : Fin 64 => d (ix2 i k)) ⟨j, hj⟩; omega⟩ c) := by
  pointwise [slot]
  simp only [before_word, sitofp_ofBool, hw]
  rw [grp_apply]
  have hc : (∑ x : Fin 64, if (decide (d (ix2 i x) < d (ix2 i ⟨j, hj⟩)) || (decide (d (ix2 i x) = d (ix2 i ⟨j, hj⟩))
        && decide (k0_pay14 (F := Ideal) (ix2 i x) < ((j : ℝ) : EReal)))) = true then (1 : EReal) else 0)
      = ((rank (fun k : Fin 64 => d (ix2 i k)) ⟨j, hj⟩ : ℝ) : EReal) := by
    rw [Finset.sum_boole, rank, EReal.coe_natCast]
    congr 3
    ext k
    have hk : (k0_pay14 (F := Ideal) (ix2 i k) < ((j : ℝ) : EReal)) ↔ k.val < j := by
      rw [kidx_apply, EReal.coe_lt_coe_iff, Nat.cast_lt]
    rw [Bool.or_eq_true, Bool.and_eq_true, decide_eq_true_iff, decide_eq_true_iff, decide_eq_true_iff]
    exact or_congr Iff.rfl (and_congr Iff.rfl hk)
  rw [hc]
  have hl : ∀ x : Fin 256, (decide (k0_pay19 (F := Ideal) (ix2 i x)
      = ((rank (fun k : Fin 64 => d (ix2 i k)) ⟨j, hj⟩ : ℝ) : EReal) + (((i.val / 64 * 64 : ℕ) : ℝ) : EReal)) = true)
      ↔ x = ⟨i.val / 64 * 64 + rank (fun k : Fin 64 => d (ix2 i k)) ⟨j, hj⟩,
          by have := rank_lt (fun k : Fin 64 => d (ix2 i k)) ⟨j, hj⟩; omega⟩ := by
    intro x
    rw [decide_eq_true_iff, lane_apply, ← EReal.coe_add, EReal.coe_eq_coe_iff, ← Nat.cast_add, Nat.cast_inj, Fin.ext_iff]
    simp only []
    omega
  simp only [hl, ite_mul, one_mul, zero_mul, Finset.sum_ite_eq', Finset.sum_ite_eq, Finset.mem_univ, if_true]

end Cert.Proof

end
-- ==== Proof.BlockA.lean ====
/- What one block of the first stage computes: the distances within each of its four groups, the features gathered by
   rank, and the linear layer on them with its column sums. -/
module

public import proofs.«01_k».proof.Proof.Gen.KernelIdeal.Frame
public import proofs.«01_k».proof.Proof.Column
public import Idealize.ShloMosaic.Lib.Pipeline.ValueKit
public import Idealize.ShloMosaic.Lib.Pipeline.ReadBack

@[expose] public section

set_option maxRecDepth 16384

noncomputable section

namespace Cert.Proof

open Idealize.ShloMosaic Idealize.ShloMosaic.TcCoe Idealize.SL.Sem
open Cert.KernelIdeal Cert.KernelIdeal.Gen

/-- The distances within the four groups of a block: row `y 0` of the block to member `y 1` of its group. -/
def distBlock (x0 : FVec Ideal S4x64x2 .f32) (x1 : FVec Ideal S4x2x64 .f32) : FVec Ideal S256x64 .f32 := fun y =>
  let g : Fin 4 := ⟨(y 0).val / 64, by have := (y 0).isLt; simp at this; omega⟩
  let p : Fin 64 := ⟨(y 0).val % 64, by omega⟩
  Ideal.sqrt ((x0 (ix3 g p 0) - x1 (ix3 g 0 (y 1))) * (x0 (ix3 g p 0) - x1 (ix3 g 0 (y 1)))
    + (x0 (ix3 g p 1) - x1 (ix3 g 1 (y 1))) * (x0 (ix3 g p 1) - x1 (ix3 g 1 (y 1))))

/-- The gathered features of a block: lane `y 1` of row `y 0` is a feature of the member of the row's group that slot
    `y 1 / 128` selects. -/
def gathBlock (d : FVec Ideal S256x64 .f32) (h : FVec Ideal S4x64x128 .f32) : FVec Ideal S256x2048 .f32 := fun y =>
  h (ix3 ⟨(y 0).val / 64, by have := (y 0).isLt; simp at this; omega⟩
    ⟨rank (fun k : Fin 64 => d (ix2 (y 0) k)) ⟨(y 1).val / 128, by have := (y 1).isLt; simp at this; omega⟩, rank_lt _ _⟩
    ⟨(y 1).val % 128, by omega⟩)

/-- The distance of two members of a group is the entry of the distance block at its row. -/
theorem dist_piece (x0 : FVec Ideal S4x64x2 .f32) (x1 : FVec Ideal S4x2x64 .f32) (b : Fin 4) (p k : Fin 64) (y : S256x64.Idx)
    (h0 : (y 0).val = b.val * 64 + p.val) (h1 : (y 1).val = k.val) :
    Ideal.sqrt ((x0 (ix3 b p 0) - x1 (ix3 b 0 k)) * (x0 (ix3 b p 0) - x1 (ix3 b 0 k))
      + (x0 (ix3 b p 1) - x1 (ix3 b 1 k)) * (x0 (ix3 b p 1) - x1 (ix3 b 1 k))) = distBlock x0 x1 y := by
  have hb : (⟨(y 0).val / 64, by have := (y 0).isLt; simp at this; omega⟩ : Fin 4) = b := Fin.ext (by simp only []; omega)
  have hp : (⟨(y 0).val % 64, by omega⟩ : Fin 64) = p := Fin.ext (by simp only []; omega)
  have hk : y 1 = k := Fin.ext h1
  simp only [distBlock, hb, hp, hk]

/-- A column block the kernel stores is the part of the gathered features at its slot. -/
theorem slot_piece (j : ℕ) (hj : j < 16) (hs : S256x64.Slices ![0, j] S256x1) (w : BitVec 32)
    (hw : Ideal.ofBits .f32 w = ((j : ℝ) : EReal)) (d : FVec Ideal S256x64 .f32) (h : FVec Ideal S4x64x128 .f32)
    (sc : S256x128.ShapeCasts S256x128) (x : S256x128.Idx) (y : S256x2048.Idx)
    (h0 : (y 0).val = (x 0).val) (h1 : (y 1).val = j * 128 + (x 1).val) :
    shapeCast S256x128 (slot j hs w d k0_pay14 (k0_pay18 k0_pay15 k0_pay16 k0_pay17) k0_pay19 (k0_pay20 h)) sc x
      = gathBlock d h y := by
  idx_vars x
  pointwise []
  rw [slot_apply j (by omega) hs w hw]
  pointwise [k0_pay20, gathBlock]
  have hr := rank_lt (fun k : Fin 64 => d (ix2 x0 k)) ⟨j, by omega⟩
  have e0 : y 0 = x0 := Fin.ext h0
  have e1 : (⟨(y 1).val / 128, by have := (y 1).isLt; simp at this; omega⟩ : Fin 64) = ⟨j, by omega⟩ :=
    Fin.ext (by simp only []; simp at h1; omega)
  simp only [e0, e1]
  congr 1
  refine (ix3_inj ..).2 ⟨Fin.ext ?_, Fin.ext ?_, Fin.ext ?_⟩
  · simp only []; omega
  · simp only []; omega
  · simp only []; simp at h1; omega

variable (V : (c : Dev nD) → (b : Ref sig .tc) → Buf (Elt Ideal) ((c : Thread nD τ).loc b)) (c : Dev nD)

/-- The gathered features of the block at a grid point. -/
abbrev gathAt (t : Fin cfg0.N) : FVec Ideal S256x2048 .f32 :=
  gathBlock (distBlock (iblk0 V c 0 t) (iblk0 V c 1 t)) (iblk0 V c 2 t)

set_option maxHeartbeats 2000000 in
/-- What a grid point leaves: its block of the linear layer, and the two running column sums, which the first point
    starts from zero. -/
theorem outs0 (t : Fin cfg0.N) :
    (t.val % 64 = 0 → outsAt0 V c t.val t.isLt =
      (k0_pay48 (gathAt V c t) (iblk0 V c 3 t) (iblk0 V c 4 t),
        k0_pay3 (k0_pay47 (gathAt V c t) (iblk0 V c 3 t) (iblk0 V c 4 t)) (k0_pay1 (F := Ideal)),
        k0_pay4 (k0_pay47 (gathAt V c t) (iblk0 V c 3 t) (iblk0 V c 4 t)) (k0_pay2 (F := Ideal))))
    ∧ (¬ t.val % 64 = 0 → outsAt0 V c t.val t.isLt =
      (k0_pay48 (gathAt V c t) (iblk0 V c 3 t) (iblk0 V c 4 t),
        k0_pay3 (k0_pay47 (gathAt V c t) (iblk0 V c 3 t) (iblk0 V c 4 t)) (outsAt0 V c (t.val - 1) (by omega)).2.1,
        k0_pay4 (k0_pay47 (gathAt V c t) (iblk0 V c 3 t) (iblk0 V c 4 t)) (outsAt0 V c (t.val - 1) (by omega)).2.2)) := by
  constructor <;> intro h
  on_goal 1 => rw [outsAt0_A V c t h]
  on_goal 2 => rw [outsAt0_B V c t h]
  all_goals
    frame_open
    simp (disch := decide) only [↓ View.readCov_skip, ↓ View.readCov_cons_toLoadRect, ↓ View.readCov_fill]
    frame_out
    generalize hD : (View.whole cc0_scratch0).readCov (Val := Elt Ideal) _ _ = D
    generalize hX : (View.whole cc0_scratch1).readCov (Val := Elt Ideal) _ _ = X
    have hD' : D = distBlock (iblk0 V c 0 t) (iblk0 V c 1 t) := by
      clear hX
      rw [← hD, View.readCov_eq_canon']
      clear hD
      funext y
      canon_tiles x h
      all_goals
        simp only [Rect.idx_unit_val] at h0 h1
        idx_vars x
      · pointwise [k0_pay13, k0_pay12, k0_pay11]
        exact dist_piece _ _ 3 x0 x1 y (by simpa using h0) (by simpa using h1)
      · pointwise [k0_pay10]
        exact dist_piece _ _ 2 x0 x1 y (by simpa using h0) (by simpa using h1)
      · pointwise [k0_pay9, k0_pay8, k0_pay7, k0_pay6]
        exact dist_piece _ _ 1 x0 x1 y (by simpa using h0) (by simpa using h1)
      · pointwise [k0_pay5]
        exact dist_piece _ _ 0 x0 x1 y (by simpa using h0) (by simpa using h1)
    have hX' : X = gathBlock D (iblk0 V c 2 t) := by
      clear hD hD'
      rw [← hX, View.readCov_eq_canon']
      clear hX
      funext y
      canon_tiles x h
      all_goals
        simp only [Rect.idx_unit_val] at h0 h1
      · exact slot_piece 15 (by decide) slices_S256x64_o0_15_S256x1 _ (slotWord_val 15) _ _ shapeCasts_S256x128_S256x128 x y
          (by simpa using h0) (by simpa using h1)
      · exact slot_piece 14 (by decide) slices_S256x64_o0_14_S256x1 _ (slotWord_val 14) _ _ shapeCasts_S256x128_S256x128 x y
          (by simpa using h0) (by simpa using h1)
      · exact slot_piece 13 (by decide) slices_S256x64_o0_13_S256x1 _ (slotWord_val 13) _ _ shapeCasts_S256x128_S256x128 x y
          (by simpa using h0) (by simpa using h1)
      · exact slot_piece 12 (by decide) slices_S256x64_o0_12_S256x1 _ (slotWord_val 12) _ _ shapeCasts_S256x128_S256x128 x y
          (by simpa using h0) (by simpa using h1)
      · exact slot_piece 11 (by decide) slices_S256x64_o0_11_S256x1 _ (slotWord_val 11) _ _ shapeCasts_S256x128_S256x128 x y
          (by simpa using h0) (by simpa using h1)
      · exact slot_piece 10 (by decide) slices_S256x64_o0_10_S256x1 _ (slotWord_val 10) _ _ shapeCasts_S256x128_S256x128 x y
          (by simpa using h0) (by simpa using h1)
      · exact slot_piece 9 (by decide) slices_S256x64_o0_9_S256x1 _ (slotWord_val 9) _ _ shapeCasts_S256x128_S256x128 x y
          (by simpa using h0) (by simpa using h1)
      · exact slot_piece 8 (by decide) slices_S256x64_o0_8_S256x1 _ (slotWord_val 8) _ _ shapeCasts_S256x128_S256x128 x y
          (by simpa using h0) (by simpa using h1)
      · exact slot_piece 7 (by decide) slices_S256x64_o0_7_S256x1 _ (slotWord_val 7) _ _ shapeCasts_S256x128_S256x128 x y
          (by simpa using h0) (by simpa using h1)
      · exact slot_piece 6 (by decide) slices_S256x64_o0_6_S256x1 _ (slotWord_val 6) _ _ shapeCasts_S256x128_S256x128 x y
          (by simpa using h0) (by simpa using h1)
      · exact slot_piece 5 (by decide) slices_S256x64_o0_5_S256x1 _ (slotWord_val 5) _ _ shapeCasts_S256x128_S256x128 x y
          (by simpa using h0) (by simpa using h1)
      · exact slot_piece 4 (by decide) slices_S256x64_o0_4_S256x1 _ (slotWord_val 4) _ _ shapeCasts_S256x128_S256x128 x y
          (by simpa using h0) (by simpa using h1)
      · exact slot_piece 3 (by decide) slices_S256x64_o0_3_S256x1 _ (slotWord_val 3) _ _ shapeCasts_S256x128_S256x128 x y
          (by simpa using h0) (by simpa using h1)
      · exact slot_piece 2 (by decide) slices_S256x64_o0_2_S256x1 _ (slotWord_val 2) _ _ shapeCasts_S256x128_S256x128 x y
          (by simpa using h0) (by simpa using h1)
      · exact slot_piece 1 (by decide) slices_S256x64_o0_1_S256x1 _ (slotWord_val 1) _ _ shapeCasts_S256x128_S256x128 x y
          (by simpa using h0) (by simpa using h1)
      · exact slot_piece 0 (by decide) slices_S256x64_o0_0_S256x1 _ (slotWord_val 0) _ _ shapeCasts_S256x128_S256x128 x y
          (by simpa using h0) (by simpa using h1)
    rw [hX', hD']
end Cert.Proof

end
-- ==== Proof.PayA.lean ====
/- The payloads of the first stage that come after the gathering, read at an index. -/
module

public import proofs.«01_k».proof.Proof.Gen.KernelIdeal.Skeleton
public import Idealize.ShloMosaic.Lib.Pointwise

@[expose] public section

set_option maxRecDepth 16384

noncomputable section

namespace Cert.Proof

open Idealize.ShloMosaic Idealize.ShloMosaic.TcCoe Idealize.SL.Sem
open Cert.KernelIdeal Cert.KernelIdeal.Gen

/-- The linear layer on a block. -/
theorem pay47_apply (x : FVec Ideal S256x2048 .f32) (w : FVec Ideal S2048x512 .f32) (b : FVec Ideal S1x512 .f32)
    (i : Fin 256) (o : Fin 512) :
    k0_pay47 (F := Ideal) x w b (ix2 i o) = (∑ l, x (ix2 i l) * w (ix2 l o)) + b (ix2 0 o) := by
  pointwise [k0_pay47]

/-- The same by group and member. -/
theorem pay48_apply (x : FVec Ideal S256x2048 .f32) (w : FVec Ideal S2048x512 .f32) (b : FVec Ideal S1x512 .f32)
    (g : Fin 4) (p : Fin 64) (o : Fin 512) :
    k0_pay48 (F := Ideal) x w b (ix3 g p o) = k0_pay47 (F := Ideal) x w b (ix2 ⟨g.val * 64 + p.val, by omega⟩ o) := by
  pointwise [k0_pay48]

/-- The running column sum takes the block's. -/
theorem pay3_apply (y : FVec Ideal S256x512 .f32) (s : FVec Ideal S1x512 .f32) (o : Fin 512) :
    k0_pay3 (F := Ideal) y s (ix2 0 o) = s (ix2 0 o) + ∑ i, y (ix2 i o) := by
  pointwise [k0_pay3]

/-- The running column sum of squares takes the block's. -/
theorem pay4_apply (y : FVec Ideal S256x512 .f32) (s : FVec Ideal S1x512 .f32) (o : Fin 512) :
    k0_pay4 (F := Ideal) y s (ix2 0 o) = s (ix2 0 o) + ∑ i, y (ix2 i o) * y (ix2 i o) := by
  pointwise [k0_pay4]

/-- The column sums start at zero. -/
theorem pay1_apply (o : Fin 512) : k0_pay1 (F := Ideal) (ix2 0 o) = 0 := by
  pointwise [k0_pay1]

/-- The column sums of squares start at zero. -/
theorem pay2_apply (o : Fin 512) : k0_pay2 (F := Ideal) (ix2 0 o) = 0 := by
  pointwise [k0_pay2]

end Cert.Proof

end
-- ==== Proof.Model.lean ====
/- What both programs compute, as plain functions of the arguments. Each person of a group looks at the group's members
   by distance: slot `j` of a row takes the features of the member at the place that member `j` has among the distances.
   Two linear layers follow, each with a batch normalisation and a leaky rectifier. -/
module

public import proofs.«01_k».proof.Proof.Rank
public import proofs.«01_k».proof.Proof.Norm

@[expose] public section

noncomputable section

namespace Cert.Proof

open Idealize.ShloMosaic

/-- Member `k` of the group of row `r`. -/
def mate (r : Fin 16384) (k : Fin 64) : Fin 16384 := ⟨r.val / 64 * 64 + k.val, by omega⟩

/-- The distance from row `r` to member `k` of its group. -/
def dist (pos : Fin 16384 → Fin 2 → EReal) (r : Fin 16384) (k : Fin 64) : EReal :=
  Ideal.sqrt ((pos r 0 - pos (mate r k) 0) * (pos r 0 - pos (mate r k) 0)
    + (pos r 1 - pos (mate r k) 1) * (pos r 1 - pos (mate r k) 1))

/-- The gathered features: lane `l` of row `r` is feature `l % 128` of the member that slot `l / 128` selects. -/
def gathered (pos : Fin 16384 → Fin 2 → EReal) (h : Fin 16384 → Fin 128 → EReal) (r : Fin 16384) (l : Fin 2048) : EReal :=
  h (mate r ⟨rank (dist pos r) ⟨l.val / 128, by omega⟩, rank_lt _ _⟩) ⟨l.val % 128, by omega⟩

/-- A linear layer with its bias. -/
def affine {n k m : ℕ} (x : Fin n → Fin k → EReal) (w : Fin k → Fin m → EReal) (b : Fin m → EReal) (r : Fin n) (c : Fin m) :
    EReal :=
  (∑ l, x r l * w l c) + b c

/-- The layer's normalisation and rectifier as the kernel writes them: from the column's sum and sum of squares. -/
def actSums {m : ℕ} (y : Fin 16384 → Fin m → EReal) (g b : Fin m → EReal) (r : Fin 16384) (c : Fin m) : EReal :=
  lrelu (normSums (∑ i, y i c) (∑ i, y i c * y i c) (y r c) (g c) (b c))

/-- The layer's normalisation and rectifier as the reference writes them: from the column's mean and variance. -/
def act {m : ℕ} (y : Fin 16384 → Fin m → EReal) (g b : Fin m → EReal) (r : Fin 16384) (c : Fin m) : EReal :=
  lrelu (norm (fun i => y i c) (g c) (b c) r)

/-- A linear layer takes reals to reals. -/
theorem affine_real {n k m : ℕ} {x : Fin n → Fin k → EReal} {w : Fin k → Fin m → EReal} {b : Fin m → EReal}
    (hx : ∀ r l, IsReal (x r l)) (hw : ∀ l c, IsReal (w l c)) (hb : ∀ c, IsReal (b c)) (r : Fin n) (c : Fin m) :
    IsReal (affine x w b r c) :=
  (IsReal.sum _ fun l => (hx r l).mul (hw l c)).add (hb c)

/-- On finite entries the two forms of a layer's normalisation and rectifier agree. -/
theorem actSums_eq {m : ℕ} (y : Fin 16384 → Fin m → EReal) (hy : ∀ r c, IsReal (y r c)) (g b : Fin m → EReal) :
    actSums y g b = act y g b := by
  funext r c
  simp only [actSums, act]
  rw [normSums_eq (fun i => y i c) (fun i => hy i c)]

end Cert.Proof

end
-- ==== Proof.ArrA.lean ====
/- What the first stage leaves in its three arrays: the linear layer on the gathered features, its column sums, and the
   column sums of its squares. -/
module

public import proofs.«01_k».proof.Proof.BlockA
public import proofs.«01_k».proof.Proof.PayA
public import proofs.«01_k».proof.Proof.Model

@[expose] public section

set_option maxRecDepth 16384

noncomputable section

namespace Cert.Proof

open Idealize.ShloMosaic Idealize.ShloMosaic.TcCoe Idealize.SL.Sem
open Idealize.ShloMosaic.Pipeline (Dat Cfg Window)
open Cert.KernelIdeal Cert.KernelIdeal.Gen

/-- The array row of row `i` of block `t`. -/
def rowA (t : Fin 64) (i : Fin 256) : Fin 16384 := ⟨t.val * 256 + i.val, by omega⟩

/-- The array row of member `p` of group `g`. -/
def rowG (g : Fin 256) (p : Fin 64) : Fin 16384 := ⟨g.val * 64 + p.val, by omega⟩

variable (V : (c : Dev nD) → (b : Ref sig .tc) → Buf (Elt Ideal) ((c : Thread nD τ).loc b)) (c : Dev nD)

/-- What the first stage finds in its argument arrays: the positions twice, by group and transposed, the features, the
    weights and the bias. -/
structure EntryA (pos : Fin 16384 → Fin 2 → EReal) (h : Fin 16384 → Fin 128 → EReal) (w : Fin 2048 → Fin 512 → EReal)
    (b : Fin 512 → EReal) : Prop where
  pos_c : ∀ g p a, (V c main_v1 : FVec Ideal S256x64x2 .f32) (ix3 g p a) = pos (rowG g p) a
  pos_r : ∀ g a p, (V c main_v2 : FVec Ideal S256x2x64 .f32) (ix3 g a p) = pos (rowG g p) a
  feat : ∀ g p k, (V c main_v0 : FVec Ideal S256x64x128 .f32) (ix3 g p k) = h (rowG g p) k
  weight : ∀ l o, (V c main_arg3 : FVec Ideal S2048x512 .f32) (ix2 l o) = w l o
  bias : ∀ o, (V c main_v3 : FVec Ideal S1x512 .f32) (ix2 0 o) = b o

/-- Where the block of operand 0 lies at each grid point. -/
theorem idx0_0 : ∀ t : Fin cfg0.N, win0_0.index t = ![t.val, 0, 0] := (by decide +kernel : ∀ t : Fin grid0.N, _)
/-- Where the block of operand 1 lies at each grid point. -/
theorem idx0_1 : ∀ t : Fin cfg0.N, win0_1.index t = ![t.val, 0, 0] := (by decide +kernel : ∀ t : Fin grid0.N, _)
/-- Where the block of operand 2 lies at each grid point. -/
theorem idx0_2 : ∀ t : Fin cfg0.N, win0_2.index t = ![t.val, 0, 0] := (by decide +kernel : ∀ t : Fin grid0.N, _)
/-- Where the block of operand 3 lies at each grid point. -/
theorem idx0_3 : ∀ t : Fin cfg0.N, win0_3.index t = ![0, 0] := (by decide +kernel : ∀ t : Fin grid0.N, _)
/-- Where the block of operand 4 lies at each grid point. -/
theorem idx0_4 : ∀ t : Fin cfg0.N, win0_4.index t = ![0, 0] := (by decide +kernel : ∀ t : Fin grid0.N, _)
/-- Where the block of operand 5 lies at each grid point. -/
theorem idx0_5 : ∀ t : Fin cfg0.N, win0_5.index t = ![t.val, 0, 0] := (by decide +kernel : ∀ t : Fin grid0.N, _)
/-- Where the block of operand 6 lies at each grid point. -/
theorem idx0_6 : ∀ t : Fin cfg0.N, win0_6.index t = ![0, 0] := (by decide +kernel : ∀ t : Fin grid0.N, _)
/-- Where the block of operand 7 lies at each grid point. -/
theorem idx0_7 : ∀ t : Fin cfg0.N, win0_7.index t = ![0, 0] := (by decide +kernel : ∀ t : Fin grid0.N, _)

variable {V c}
variable {pos : Fin 16384 → Fin 2 → EReal} {h : Fin 16384 → Fin 128 → EReal} {w : Fin 2048 → Fin 512 → EReal}
  {b : Fin 512 → EReal}

/-- The grid has 64 points. -/
theorem lt0 (t : Fin cfg0.N) : t.val < 64 := t.isLt

/-- The blocks of the positions, the features, the weights and the bias at a point. -/
theorem blk0_0 (hE : EntryA V c pos h w b) (t : Fin cfg0.N) (g : Fin 4) (p : Fin 64) (a : Fin 2) :
    (iblk0 V c 0 t : FVec Ideal S4x64x2 .f32) (ix3 g p a) = pos (rowG ⟨t.val * 4 + g.val, by have := lt0 t; omega⟩ p) a := by
  rw [← hE.pos_c]
  blk_simp [iblk0]
  congr 1
  blk_ext [idx0_0]

/-- The block of the transposed positions at a point. -/
theorem blk0_1 (hE : EntryA V c pos h w b) (t : Fin cfg0.N) (g : Fin 4) (a : Fin 2) (p : Fin 64) :
    (iblk0 V c 1 t : FVec Ideal S4x2x64 .f32) (ix3 g a p) = pos (rowG ⟨t.val * 4 + g.val, by have := lt0 t; omega⟩ p) a := by
  rw [← hE.pos_r]
  blk_simp [iblk0]
  congr 1
  blk_ext [idx0_1]

/-- The block of the features at a point. -/
theorem blk0_2 (hE : EntryA V c pos h w b) (t : Fin cfg0.N) (g : Fin 4) (p : Fin 64) (k : Fin 128) :
    (iblk0 V c 2 t : FVec Ideal S4x64x128 .f32) (ix3 g p k) = h (rowG ⟨t.val * 4 + g.val, by have := lt0 t; omega⟩ p) k := by
  rw [← hE.feat]
  blk_simp [iblk0]
  congr 1
  blk_ext [idx0_2]

/-- The block of the weights at a point. -/
theorem blk0_3 (hE : EntryA V c pos h w b) (t : Fin cfg0.N) (l : Fin 2048) (o : Fin 512) :
    (iblk0 V c 3 t : FVec Ideal S2048x512 .f32) (ix2 l o) = w l o := by
  rw [← hE.weight]
  blk_simp [iblk0]
  congr 1
  blk_ext [idx0_3]

/-- The block of the bias at a point. -/
theorem blk0_4 (hE : EntryA V c pos h w b) (t : Fin cfg0.N) (o : Fin 512) :
    (iblk0 V c 4 t : FVec Ideal S1x512 .f32) (ix2 0 o) = b o := by
  rw [← hE.bias]
  blk_simp [iblk0]
  congr 1
  blk_ext [idx0_4]

/-- The distances of a block whose positions are the model's. -/
theorem distBlock_of {x0 : FVec Ideal S4x64x2 .f32} {x1 : FVec Ideal S4x2x64 .f32} {t : Fin 64}
    (e0 : ∀ g p a, x0 (ix3 g p a) = pos (rowG ⟨t.val * 4 + g.val, by omega⟩ p) a)
    (e1 : ∀ g a p, x1 (ix3 g a p) = pos (rowG ⟨t.val * 4 + g.val, by omega⟩ p) a) (i : Fin 256) (k : Fin 64) :
    distBlock x0 x1 (ix2 i k) = dist pos (rowA t i) k := by
  have hr : rowG ⟨t.val * 4 + i.val / 64, by omega⟩ ⟨i.val % 64, by omega⟩ = rowA t i :=
    Fin.ext (by simp only [rowG, rowA]; omega)
  have hm : rowG ⟨t.val * 4 + i.val / 64, by omega⟩ k = mate (rowA t i) k :=
    Fin.ext (by simp only [rowG, rowA, mate]; omega)
  have e : distBlock x0 x1 (ix2 i k) = Ideal.sqrt
      ((x0 (ix3 ⟨i.val / 64, by omega⟩ ⟨i.val % 64, by omega⟩ 0) - x1 (ix3 ⟨i.val / 64, by omega⟩ 0 k))
          * (x0 (ix3 ⟨i.val / 64, by omega⟩ ⟨i.val % 64, by omega⟩ 0) - x1 (ix3 ⟨i.val / 64, by omega⟩ 0 k))
        + (x0 (ix3 ⟨i.val / 64, by omega⟩ ⟨i.val % 64, by omega⟩ 1) - x1 (ix3 ⟨i.val / 64, by omega⟩ 1 k))
          * (x0 (ix3 ⟨i.val / 64, by omega⟩ ⟨i.val % 64, by omega⟩ 1) - x1 (ix3 ⟨i.val / 64, by omega⟩ 1 k))) := rfl
  rw [e, e0, e0, e1, e1, hr, hm]
  rfl

/-- The gathered features of a block are the model's. -/
theorem gathAt_apply (hE : EntryA V c pos h w b) (t : Fin cfg0.N) (i : Fin 256) (l : Fin 2048) :
    gathAt V c t (ix2 i l) = gathered pos h (rowA ⟨t.val, lt0 t⟩ i) l := by
  have hd : (fun k : Fin 64 => distBlock (iblk0 V c 0 t) (iblk0 V c 1 t) (ix2 i k)) = dist pos (rowA ⟨t.val, lt0 t⟩ i) :=
    funext fun k => distBlock_of (t := ⟨t.val, lt0 t⟩) (fun g p a => blk0_0 hE t g p a) (fun g a p => blk0_1 hE t g a p) i k
  have e : gathAt V c t (ix2 i l) = (iblk0 V c 2 t : FVec Ideal S4x64x128 .f32) (ix3 ⟨i.val / 64, by omega⟩
      ⟨rank (fun k : Fin 64 => distBlock (iblk0 V c 0 t) (iblk0 V c 1 t) (ix2 i k)) ⟨l.val / 128, by omega⟩, rank_lt _ _⟩
      ⟨l.val % 128, by omega⟩) := rfl
  refine (e.trans (blk0_2 hE t _ _ _)).trans ?_
  rw [gathered]
  simp only [hd]
  congr 1
  exact Fin.ext (by simp only [rowG, rowA, mate]; omega)

/-- The linear layer on a block is the model's. -/
theorem layerAt_apply (hE : EntryA V c pos h w b) (t : Fin cfg0.N) (i : Fin 256) (o : Fin 512) :
    k0_pay47 (F := Ideal) (gathAt V c t) (iblk0 V c 3 t) (iblk0 V c 4 t) (ix2 i o)
      = affine (gathered pos h) w b (rowA ⟨t.val, lt0 t⟩ i) o := by
  refine (pay47_apply _ _ _ i o).trans ?_
  rw [affine]
  exact congr (congrArg _ (Finset.sum_congr rfl fun l _ => congr (congrArg _ (gathAt_apply hE t i l)) (blk0_3 hE t l o)))
    (blk0_4 hE t o)

/-- A sum over all rows, block by block. -/
theorem sum_rowA (f : Fin 16384 → EReal) : ∑ r, f r = ∑ t : Fin 64, ∑ i : Fin 256, f (rowA t i) :=
  Fin.sum_univ_tiles 64 256 rfl f

/-- An index of a one-row array. -/
theorem one_row {n : Nat} (j : Shape.Idx ⟨2, ![1, n]⟩) : ∃ o : Fin n, j = ix2 (0 : Fin 1) o :=
  ⟨j 1, (eq_ix2 j).trans (congrArg (fun z : Fin 1 => ix2 z (j 1)) (Fin.fin_one_eq_zero (j 0)))⟩

/-- One block's addition to the column sums. -/
theorem stepA_sum (hE : EntryA V c pos h w b) (t : Fin cfg0.N) (s : FVec Ideal S1x512 .f32) (j : S1x512.Idx) :
    k0_pay3 (F := Ideal) (k0_pay47 (gathAt V c t) (iblk0 V c 3 t) (iblk0 V c 4 t)) s j
      = s j + ∑ i : Fin 256, affine (gathered pos h) w b (rowA ⟨t.val, lt0 t⟩ i) (j 1) := by
  obtain ⟨o, rfl⟩ := one_row j
  refine (pay3_apply _ _ o).trans ?_
  exact congrArg _ (Finset.sum_congr rfl fun i _ => layerAt_apply hE t i o)

/-- One block's addition to the column sums of squares. -/
theorem stepA_sq (hE : EntryA V c pos h w b) (t : Fin cfg0.N) (s : FVec Ideal S1x512 .f32) (j : S1x512.Idx) :
    k0_pay4 (F := Ideal) (k0_pay47 (gathAt V c t) (iblk0 V c 3 t) (iblk0 V c 4 t)) s j
      = s j + ∑ i : Fin 256, affine (gathered pos h) w b (rowA ⟨t.val, lt0 t⟩ i) (j 1)
          * affine (gathered pos h) w b (rowA ⟨t.val, lt0 t⟩ i) (j 1) := by
  obtain ⟨o, rfl⟩ := one_row j
  refine (pay4_apply _ _ o).trans ?_
  exact congrArg _ (Finset.sum_congr rfl fun i _ =>
    congr (congrArg _ (layerAt_apply hE t i o)) (layerAt_apply hE t i o))

/-- The column sums are set to zero at the first point. -/
theorem zeroA_sum (j : S1x512.Idx) : k0_pay1 (F := Ideal) j = 0 := by
  obtain ⟨o, rfl⟩ := one_row j
  exact pay1_apply _

/-- The column sums of squares are set to zero at the first point. -/
theorem zeroA_sq (j : S1x512.Idx) : k0_pay2 (F := Ideal) j = 0 := by
  obtain ⟨o, rfl⟩ := one_row j
  exact pay2_apply _

/-- The array of the linear layer, by group and member. -/
def layerArr (pos : Fin 16384 → Fin 2 → EReal) (h : Fin 16384 → Fin 128 → EReal) (w : Fin 2048 → Fin 512 → EReal)
    (b : Fin 512 → EReal) : FVec Ideal S256x64x512 .f32 :=
  fun y => affine (gathered pos h) w b (rowG (y 0) (y 1)) (y 2)

/-- A row of column sums. -/
def sumRow {n : Nat} (y : Fin 16384 → Fin n → EReal) : FVec Ideal ⟨2, ![1, n]⟩ .f32 := fun j => ∑ r, y r (j 1)

/-- A row of column sums of squares. -/
def sqRow {n : Nat} (y : Fin 16384 → Fin n → EReal) : FVec Ideal ⟨2, ![1, n]⟩ .f32 := fun j => ∑ r, y r (j 1) * y r (j 1)

/-- The first stage leaves the linear layer in its first array. -/
theorem arrA_layer (hE : EntryA V c pos h w b) : (dat0 V c).arrAt 5 cfg0.N = layerArr pos h w b := by
  refine (dat0 V c).arrAt_eq_of_covers 5 _ (by decide +kernel) fun t hf y => ?_
  blk_simp
  rw [after0_5]
  have e : (outsAt0 V c t.val t.isLt).1 = k0_pay48 (gathAt V c t) (iblk0 V c 3 t) (iblk0 V c 4 t) := by
    by_cases h0 : t.val % 64 = 0
    · rw [(outs0 V c t).1 h0]
    · rw [(outs0 V c t).2 h0]
  rw [e]
  obtain ⟨g, p, o, rfl⟩ : ∃ (g : Fin 4) (p : Fin 64) (o : Fin 512), y = ix3 g p o := ⟨y 0, y 1, y 2, eq_ix3 y⟩
  have h4 : t.val * 4 + g.val < 256 := by have := lt0 t; omega
  refine Eq.trans (b := layerArr pos h w b (ix3 ⟨t.val * 4 + g.val, h4⟩ p o)) ?_ ?_
  · refine ((pay48_apply _ _ _ g p o).trans (layerAt_apply hE t _ o)).trans ?_
    show affine _ _ _ _ o = affine _ _ _ (rowG ⟨t.val * 4 + g.val, h4⟩ p) o
    exact congrArg (fun r => affine (gathered pos h) w b r o) (Fin.ext (by simp only [rowA, rowG]; omega))
  · blk_ext [idx0_5]

/-- The first stage leaves the column sums in its second array. -/
theorem arrA_sum (hE : EntryA V c pos h w b) : (dat0 V c).arrAt 6 cfg0.N = sumRow (affine (gathered pos h) w b) := by
  refine (dat0 V c).arrAt_eq_of_covers 6 _ (by decide +kernel) fun t hf y => ?_
  have ht : t.val + 1 = cfg0.N := by
    have h1 := (flush0_6 t).mp hf
    have h2 := lt0 t
    have h3 : cfg0.N = 64 := N_0
    omega
  blk_simp
  rw [after0_6, Pipeline.eq_sum_fin_of_reset_step_apply_last (fun n hn => (outsAt0 V c n hn).2.1) 64 (fun _ => (0 : EReal))
    (fun t j => ∑ i : Fin 256, affine (gathered pos h) w b (rowA ⟨t.val, lt0 t⟩ i) (j 1))
    (fun t h0 j => by rw [(outs0 V c t).1 h0]; exact (stepA_sum hE t _ j).trans (congrArg (· + _) (zeroA_sum j)))
    (fun t h0 j => by rw [(outs0 V c t).2 h0]; exact stepA_sum hE t _ j)
    (le_of_eq N_0) t ht, zero_add]
  obtain ⟨o, rfl⟩ := one_row y
  refine (sum_rowA fun r => affine (gathered pos h) w b r o).symm.trans ?_
  show sumRow (affine (gathered pos h) w b) (ix2 0 o) = _
  generalize sumRow (affine (gathered pos h) w b) = G
  blk_ext [idx0_6]

/-- The first stage leaves the column sums of squares in its third array. -/
theorem arrA_sq (hE : EntryA V c pos h w b) : (dat0 V c).arrAt 7 cfg0.N = sqRow (affine (gathered pos h) w b) := by
  refine (dat0 V c).arrAt_eq_of_covers 7 _ (by decide +kernel) fun t hf y => ?_
  have ht : t.val + 1 = cfg0.N := by
    have h1 := (flush0_7 t).mp hf
    have h2 := lt0 t
    have h3 : cfg0.N = 64 := N_0
    omega
  blk_simp
  rw [after0_7, Pipeline.eq_sum_fin_of_reset_step_apply_last (fun n hn => (outsAt0 V c n hn).2.2) 64 (fun _ => (0 : EReal))
    (fun t j => ∑ i : Fin 256, affine (gathered pos h) w b (rowA ⟨t.val, lt0 t⟩ i) (j 1)
      * affine (gathered pos h) w b (rowA ⟨t.val, lt0 t⟩ i) (j 1))
    (fun t h0 j => by rw [(outs0 V c t).1 h0]; exact (stepA_sq hE t _ j).trans (congrArg (· + _) (zeroA_sq j)))
    (fun t h0 j => by rw [(outs0 V c t).2 h0]; exact stepA_sq hE t _ j)
    (le_of_eq N_0) t ht, zero_add]
  obtain ⟨o, rfl⟩ := one_row y
  refine (sum_rowA fun r => affine (gathered pos h) w b r o * affine (gathered pos h) w b r o).symm.trans ?_
  show sqRow (affine (gathered pos h) w b) (ix2 0 o) = _
  generalize sqRow (affine (gathered pos h) w b) = G
  blk_ext [idx0_7]

end Cert.Proof

end
-- ==== Proof.ArrB.lean ====
/- What the second stage leaves in its three arrays: the second linear layer on the normalised and rectified rows, its
   column sums, and the column sums of its squares. -/
module

public import proofs.«01_k».proof.Proof.BlockB
public import proofs.«01_k».proof.Proof.PayBC
public import proofs.«01_k».proof.Proof.ArrA

@[expose] public section

set_option maxRecDepth 16384

noncomputable section

namespace Cert.Proof

open Idealize.ShloMosaic Idealize.ShloMosaic.TcCoe Idealize.SL.Sem
open Idealize.ShloMosaic.Pipeline (Dat Cfg Window)
open Cert.KernelIdeal Cert.KernelIdeal.Gen

/-- The array row of row `i` of block `t` of the later stages. -/
def rowB (t : Fin 32) (i : Fin 512) : Fin 16384 := ⟨t.val * 512 + i.val, by omega⟩

/-- A sum over all rows, block by block. -/
theorem sum_rowB (f : Fin 16384 → EReal) : ∑ r, f r = ∑ t : Fin 32, ∑ i : Fin 512, f (rowB t i) :=
  Fin.sum_univ_tiles 32 512 rfl f

variable (V : (c : Dev nD) → (b : Ref sig .tc) → Buf (Elt Ideal) ((c : Thread nD τ).loc b)) (c : Dev nD)

/-- What the second stage finds in its argument arrays: the first layer with its column sums, the scale and the shift,
    the weights and the bias. -/
structure EntryB (y : Fin 16384 → Fin 512 → EReal) (g be : Fin 512 → EReal) (w : Fin 512 → Fin 256 → EReal)
    (b : Fin 256 → EReal) : Prop where
  layer : ∀ r l, (V c main_v5 : FVec Ideal S16384x512 .f32) (ix2 r l) = y r l
  sums : ∀ l, (V c main_v4_1 : FVec Ideal S1x512 .f32) (ix2 0 l) = ∑ r, y r l
  squares : ∀ l, (V c main_v4_2 : FVec Ideal S1x512 .f32) (ix2 0 l) = ∑ r, y r l * y r l
  scale : ∀ l, (V c main_v6 : FVec Ideal S1x512 .f32) (ix2 0 l) = g l
  shift : ∀ l, (V c main_v7 : FVec Ideal S1x512 .f32) (ix2 0 l) = be l
  weight : ∀ l o, (V c main_arg7 : FVec Ideal S512x256 .f32) (ix2 l o) = w l o
  bias : ∀ o, (V c main_v8 : FVec Ideal S1x256 .f32) (ix2 0 o) = b o

/-- Where the block of operand 0 lies at each grid point. -/
theorem idx1_0 : ∀ t : Fin cfg1.N, win1_0.index t = ![t.val, 0] := (by decide +kernel : ∀ t : Fin grid1.N, _)
/-- Where the block of operand 1 lies at each grid point. -/
theorem idx1_1 : ∀ t : Fin cfg1.N, win1_1.index t = ![0, 0] := (by decide +kernel : ∀ t : Fin grid1.N, _)
/-- Where the block of operand 2 lies at each grid point. -/
theorem idx1_2 : ∀ t : Fin cfg1.N, win1_2.index t = ![0, 0] := (by decide +kernel : ∀ t : Fin grid1.N, _)
/-- Where the block of operand 3 lies at each grid point. -/
theorem idx1_3 : ∀ t : Fin cfg1.N, win1_3.index t = ![0, 0] := (by decide +kernel : ∀ t : Fin grid1.N, _)
/-- Where the block of operand 4 lies at each grid point. -/
theorem idx1_4 : ∀ t : Fin cfg1.N, win1_4.index t = ![0, 0] := (by decide +kernel : ∀ t : Fin grid1.N, _)
/-- Where the block of operand 5 lies at each grid point. -/
theorem idx1_5 : ∀ t : Fin cfg1.N, win1_5.index t = ![0, 0] := (by decide +kernel : ∀ t : Fin grid1.N, _)
/-- Where the block of operand 6 lies at each grid point. -/
theorem idx1_6 : ∀ t : Fin cfg1.N, win1_6.index t = ![0, 0] := (by decide +kernel : ∀ t : Fin grid1.N, _)
/-- Where the block of operand 7 lies at each grid point. -/
theorem idx1_7 : ∀ t : Fin cfg1.N, win1_7.index t = ![t.val, 0] := (by decide +kernel : ∀ t : Fin grid1.N, _)
/-- Where the block of operand 8 lies at each grid point. -/
theorem idx1_8 : ∀ t : Fin cfg1.N, win1_8.index t = ![0, 0] := (by decide +kernel : ∀ t : Fin grid1.N, _)
/-- Where the block of operand 9 lies at each grid point. -/
theorem idx1_9 : ∀ t : Fin cfg1.N, win1_9.index t = ![0, 0] := (by decide +kernel : ∀ t : Fin grid1.N, _)

variable {V c}
variable {y : Fin 16384 → Fin 512 → EReal} {g be : Fin 512 → EReal} {w : Fin 512 → Fin 256 → EReal} {b : Fin 256 → EReal}

/-- The grid has 32 points. -/
theorem lt1 (t : Fin cfg1.N) : t.val < 32 := t.isLt

/-- The rows of a point's block are rows of the array. -/
theorem blk1_0 (hE : EntryB V c y g be w b) (t : Fin cfg1.N) (i : Fin 512) (l : Fin 512) :
    (iblk1 V c 0 t : FVec Ideal S512x512 .f32) (ix2 i l) = y (rowB ⟨t.val, lt1 t⟩ i) l := by
  rw [← hE.layer]
  blk_simp [iblk1]
  congr 1
  blk_ext [idx1_0, rowB]

/-- The other operands' blocks are whole arrays. -/
theorem blk1_1 (hE : EntryB V c y g be w b) (t : Fin cfg1.N) (l : Fin 512) :
    (iblk1 V c 1 t : FVec Ideal S1x512 .f32) (ix2 0 l) = ∑ r, y r l := by
  rw [← hE.sums]
  blk_simp [iblk1]
  congr 1
  blk_ext [idx1_1]

/-- The block of the column sums of squares at a point. -/
theorem blk1_2 (hE : EntryB V c y g be w b) (t : Fin cfg1.N) (l : Fin 512) :
    (iblk1 V c 2 t : FVec Ideal S1x512 .f32) (ix2 0 l) = ∑ r, y r l * y r l := by
  rw [← hE.squares]
  blk_simp [iblk1]
  congr 1
  blk_ext [idx1_2]

/-- The block of the scale at a point. -/
theorem blk1_3 (hE : EntryB V c y g be w b) (t : Fin cfg1.N) (l : Fin 512) :
    (iblk1 V c 3 t : FVec Ideal S1x512 .f32) (ix2 0 l) = g l := by
  rw [← hE.scale]
  blk_simp [iblk1]
  congr 1
  blk_ext [idx1_3]

/-- The block of the shift at a point. -/
theorem blk1_4 (hE : EntryB V c y g be w b) (t : Fin cfg1.N) (l : Fin 512) :
    (iblk1 V c 4 t : FVec Ideal S1x512 .f32) (ix2 0 l) = be l := by
  rw [← hE.shift]
  blk_simp [iblk1]
  congr 1
  blk_ext [idx1_4]

/-- The block of the weights at a point. -/
theorem blk1_5 (hE : EntryB V c y g be w b) (t : Fin cfg1.N) (l : Fin 512) (o : Fin 256) :
    (iblk1 V c 5 t : FVec Ideal S512x256 .f32) (ix2 l o) = w l o := by
  rw [← hE.weight]
  blk_simp [iblk1]
  congr 1
  blk_ext [idx1_5]

/-- The block of the bias at a point. -/
theorem blk1_6 (hE : EntryB V c y g be w b) (t : Fin cfg1.N) (o : Fin 256) :
    (iblk1 V c 6 t : FVec Ideal S1x256 .f32) (ix2 0 o) = b o := by
  rw [← hE.bias]
  blk_simp [iblk1]
  congr 1
  blk_ext [idx1_6]

/-- The second layer on a block is the model's. -/
theorem layerB_apply (hE : EntryB V c y g be w b) (t : Fin cfg1.N) (i : Fin 512) (o : Fin 256) :
    layerB V c t (ix2 i o) = affine (actSums y g be) w b (rowB ⟨t.val, lt1 t⟩ i) o := by
  refine (k1_pay5_apply _ _ _ _ _ _ _ i o).trans ?_
  rw [blk1_6 hE]
  simp only [affine, actSums]
  refine congrArg (· + b o) (Finset.sum_congr rfl fun l _ => ?_)
  rw [blk1_0 hE, blk1_1 hE, blk1_2 hE, blk1_3 hE, blk1_4 hE, blk1_5 hE]

/-- One block's addition to the column sums. -/
theorem stepB_sum (hE : EntryB V c y g be w b) (t : Fin cfg1.N) (s : FVec Ideal S1x256 .f32) (j : S1x256.Idx) :
    k1_pay3 (F := Ideal) (layerB V c t) s j
      = s j + ∑ i : Fin 512, affine (actSums y g be) w b (rowB ⟨t.val, lt1 t⟩ i) (j 1) := by
  obtain ⟨o, rfl⟩ := one_row j
  refine (k1_pay3_apply _ _ o).trans ?_
  exact congrArg _ (Finset.sum_congr rfl fun i _ => layerB_apply hE t i o)

/-- One block's addition to the column sums of squares. -/
theorem stepB_sq (hE : EntryB V c y g be w b) (t : Fin cfg1.N) (s : FVec Ideal S1x256 .f32) (j : S1x256.Idx) :
    k1_pay4 (F := Ideal) (layerB V c t) s j
      = s j + ∑ i : Fin 512, affine (actSums y g be) w b (rowB ⟨t.val, lt1 t⟩ i) (j 1)
          * affine (actSums y g be) w b (rowB ⟨t.val, lt1 t⟩ i) (j 1) := by
  obtain ⟨o, rfl⟩ := one_row j
  refine (k1_pay4_apply _ _ o).trans ?_
  exact congrArg _ (Finset.sum_congr rfl fun i _ => congr (congrArg _ (layerB_apply hE t i o)) (layerB_apply hE t i o))

/-- The column sums are set to zero at the first point. -/
theorem zeroB_sum (j : S1x256.Idx) : k1_pay1 (F := Ideal) j = 0 := by
  obtain ⟨o, rfl⟩ := one_row j
  exact k1_pay1_apply _

/-- The column sums of squares are set to zero at the first point. -/
theorem zeroB_sq (j : S1x256.Idx) : k1_pay2 (F := Ideal) j = 0 := by
  obtain ⟨o, rfl⟩ := one_row j
  exact k1_pay2_apply _

/-- An array of rows. -/
def rowsArr {n : Nat} (y : Fin 16384 → Fin n → EReal) : FVec Ideal ⟨2, ![16384, n]⟩ .f32 := fun j => y (j 0) (j 1)

/-- The second stage leaves the second linear layer in its first array. -/
theorem arrB_layer (hE : EntryB V c y g be w b) :
    (dat1 V c).arrAt 7 cfg1.N = rowsArr (affine (actSums y g be) w b) := by
  refine (dat1 V c).arrAt_eq_of_covers 7 _ (by decide +kernel) fun t hf z => ?_
  blk_simp
  rw [after1_7]
  have e : (outsAt1 V c t.val t.isLt).1 = layerB V c t := by
    by_cases h0 : t.val % 32 = 0
    · rw [(outs1 V c t).1 h0]
    · rw [(outs1 V c t).2 h0]
  rw [e]
  obtain ⟨i, o, rfl⟩ : ∃ (i : Fin 512) (o : Fin 256), z = ix2 i o := ⟨z 0, z 1, eq_ix2 z⟩
  refine (layerB_apply hE t i o).trans ?_
  show rowsArr (affine (actSums y g be) w b) (ix2 (rowB ⟨t.val, lt1 t⟩ i) o) = _
  generalize rowsArr (affine (actSums y g be) w b) = G
  blk_ext [idx1_7, rowB]

/-- The second stage leaves the column sums in its second array. -/
theorem arrB_sum (hE : EntryB V c y g be w b) : (dat1 V c).arrAt 8 cfg1.N = sumRow (affine (actSums y g be) w b) := by
  refine (dat1 V c).arrAt_eq_of_covers 8 _ (by decide +kernel) fun t hf z => ?_
  have ht : t.val + 1 = cfg1.N := by
    have h1 := (flush1_8 t).mp hf
    have h2 := lt1 t
    have h3 : cfg1.N = 32 := N_1
    omega
  blk_simp
  rw [after1_8, Pipeline.eq_sum_fin_of_reset_step_apply_last (fun n hn => (outsAt1 V c n hn).2.1) 32 (fun _ => (0 : EReal))
    (fun t j => ∑ i : Fin 512, affine (actSums y g be) w b (rowB ⟨t.val, lt1 t⟩ i) (j 1))
    (fun t h0 j => by rw [(outs1 V c t).1 h0]; exact (stepB_sum hE t _ j).trans (congrArg (· + _) (zeroB_sum j)))
    (fun t h0 j => by rw [(outs1 V c t).2 h0]; exact stepB_sum hE t _ j)
    (le_of_eq N_1) t ht, zero_add]
  obtain ⟨o, rfl⟩ := one_row z
  refine (sum_rowB fun r => affine (actSums y g be) w b r o).symm.trans ?_
  show sumRow (affine (actSums y g be) w b) (ix2 0 o) = _
  generalize sumRow (affine (actSums y g be) w b) = G
  blk_ext [idx1_8]

/-- The second stage leaves the column sums of squares in its third array. -/
theorem arrB_sq (hE : EntryB V c y g be w b) : (dat1 V c).arrAt 9 cfg1.N = sqRow (affine (actSums y g be) w b) := by
  refine (dat1 V c).arrAt_eq_of_covers 9 _ (by decide +kernel) fun t hf z => ?_
  have ht : t.val + 1 = cfg1.N := by
    have h1 := (flush1_9 t).mp hf
    have h2 := lt1 t
    have h3 : cfg1.N = 32 := N_1
    omega
  blk_simp
  rw [after1_9, Pipeline.eq_sum_fin_of_reset_step_apply_last (fun n hn => (outsAt1 V c n hn).2.2) 32 (fun _ => (0 : EReal))
    (fun t j => ∑ i : Fin 512, affine (actSums y g be) w b (rowB ⟨t.val, lt1 t⟩ i) (j 1)
      * affine (actSums y g be) w b (rowB ⟨t.val, lt1 t⟩ i) (j 1))
    (fun t h0 j => by rw [(outs1 V c t).1 h0]; exact (stepB_sq hE t _ j).trans (congrArg (· + _) (zeroB_sq j)))
    (fun t h0 j => by rw [(outs1 V c t).2 h0]; exact stepB_sq hE t _ j)
    (le_of_eq N_1) t ht, zero_add]
  obtain ⟨o, rfl⟩ := one_row z
  refine (sum_rowB fun r => affine (actSums y g be) w b r o * affine (actSums y g be) w b r o).symm.trans ?_
  show sqRow (affine (actSums y g be) w b) (ix2 0 o) = _
  generalize sqRow (affine (actSums y g be) w b) = G
  blk_ext [idx1_9]

end Cert.Proof

end
-- ==== Proof.ArrC.lean ====
/- What the third stage leaves in the result array: the normalised and rectified rows of the second layer. -/
module

public import proofs.«01_k».proof.Proof.ArrB

@[expose] public section

set_option maxRecDepth 16384

noncomputable section

namespace Cert.Proof

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b)) (c : Dev nD)

/-- What the third stage finds in its argument arrays: the second layer with its column sums, the scale and the shift. -/
structure EntryC (y : Fin 16384 → Fin 256 → EReal) (g be : Fin 256 → EReal) : Prop where
  layer : ∀ r l, (V c main_v9_0 : FVec Ideal S16384x256 .f32) (ix2 r l) = y r l
  sums : ∀ l, (V c main_v9_1 : FVec Ideal S1x256 .f32) (ix2 0 l) = ∑ r, y r l
  squares : ∀ l, (V c main_v9_2 : FVec Ideal S1x256 .f32) (ix2 0 l) = ∑ r, y r l * y r l
  scale : ∀ l, (V c main_v10 : FVec Ideal S1x256 .f32) (ix2 0 l) = g l
  shift : ∀ l, (V c main_v11 : FVec Ideal S1x256 .f32) (ix2 0 l) = be l

/-- Where the block of operand 0 lies at each grid point. -/
theorem idx2_0 : ∀ t : Fin cfg2.N, win2_0.index t = ![t.val, 0] := (by decide +kernel : ∀ t : Fin grid2.N, _)
/-- Where the block of operand 1 lies at each grid point. -/
theorem idx2_1 : ∀ t : Fin cfg2.N, win2_1.index t = ![0, 0] := (by decide +kernel : ∀ t : Fin grid2.N, _)
/-- Where the block of operand 2 lies at each grid point. -/
theorem idx2_2 : ∀ t : Fin cfg2.N, win2_2.index t = ![0, 0] := (by decide +kernel : ∀ t : Fin grid2.N, _)
/-- Where the block of operand 3 lies at each grid point. -/
theorem idx2_3 : ∀ t : Fin cfg2.N, win2_3.index t = ![0, 0] := (by decide +kernel : ∀ t : Fin grid2.N, _)
/-- Where the block of operand 4 lies at each grid point. -/
theorem idx2_4 : ∀ t : Fin cfg2.N, win2_4.index t = ![0, 0] := (by decide +kernel : ∀ t : Fin grid2.N, _)
/-- Where the block of operand 5 lies at each grid point. -/
theorem idx2_5 : ∀ t : Fin cfg2.N, win2_5.index t = ![t.val, 0] := (by decide +kernel : ∀ t : Fin grid2.N, _)

variable {V c}
variable {y : Fin 16384 → Fin 256 → EReal} {g be : Fin 256 → EReal}

/-- The grid has 32 points. -/
theorem lt2 (t : Fin cfg2.N) : t.val < 32 := t.isLt

/-- The rows of a point's block are rows of the array. -/
theorem blk2_0 (hE : EntryC V c y g be) (t : Fin cfg2.N) (i : Fin 512) (l : Fin 256) :
    (iblk2 V c 0 t : FVec Ideal S512x256 .f32) (ix2 i l) = y (rowB ⟨t.val, lt2 t⟩ i) l := by
  rw [← hE.layer]
  blk_simp [iblk2]
  congr 1
  blk_ext [idx2_0, rowB]

/-- The other operands' blocks are whole arrays. -/
theorem blk2_1 (hE : EntryC V c y g be) (t : Fin cfg2.N) (l : Fin 256) :
    (iblk2 V c 1 t : FVec Ideal S1x256 .f32) (ix2 0 l) = ∑ r, y r l := by
  rw [← hE.sums]
  blk_simp [iblk2]
  congr 1
  blk_ext [idx2_1]

/-- The block of the column sums of squares at a point. -/
theorem blk2_2 (hE : EntryC V c y g be) (t : Fin cfg2.N) (l : Fin 256) :
    (iblk2 V c 2 t : FVec Ideal S1x256 .f32) (ix2 0 l) = ∑ r, y r l * y r l := by
  rw [← hE.squares]
  blk_simp [iblk2]
  congr 1
  blk_ext [idx2_2]

/-- The block of the scale at a point. -/
theorem blk2_3 (hE : EntryC V c y g be) (t : Fin cfg2.N) (l : Fin 256) :
    (iblk2 V c 3 t : FVec Ideal S1x256 .f32) (ix2 0 l) = g l := by
  rw [← hE.scale]
  blk_simp [iblk2]
  congr 1
  blk_ext [idx2_3]

/-- The block of the shift at a point. -/
theorem blk2_4 (hE : EntryC V c y g be) (t : Fin cfg2.N) (l : Fin 256) :
    (iblk2 V c 4 t : FVec Ideal S1x256 .f32) (ix2 0 l) = be l := by
  rw [← hE.shift]
  blk_simp [iblk2]
  congr 1
  blk_ext [idx2_4]

/-- The third stage leaves the normalised and rectified rows. -/
theorem arrC (hE : EntryC V c y g be) : (dat2 V c).arrAt 5 cfg2.N = rowsArr (actSums y g be) := by
  refine (dat2 V c).arrAt_eq_of_covers 5 _ (by decide +kernel) fun t hf z => ?_
  blk_simp
  rw [after2_5]
  obtain ⟨i, o, rfl⟩ : ∃ (i : Fin 512) (o : Fin 256), z = ix2 i o := ⟨z 0, z 1, eq_ix2 z⟩
  have e : out2_5 (iblk2 V c 0 t) (iblk2 V c 1 t) (iblk2 V c 2 t) (iblk2 V c 3 t) (iblk2 V c 4 t)
      = k2_pay1 (F := Ideal) (iblk2 V c 1 t) (iblk2 V c 2 t) (iblk2 V c 3 t) (iblk2 V c 0 t) (iblk2 V c 4 t) := by
    unfold out2_5
    frame_out
  have e' : k2_pay1 (F := Ideal) (iblk2 V c 1 t) (iblk2 V c 2 t) (iblk2 V c 3 t) (iblk2 V c 0 t) (iblk2 V c 4 t) (ix2 i o)
      = actSums y g be (rowB ⟨t.val, lt2 t⟩ i) o := by
    refine (k2_pay1_apply _ _ _ _ _ i o).trans ?_
    rw [blk2_0 hE, blk2_1 hE, blk2_2 hE, blk2_3 hE, blk2_4 hE]
    rfl
  refine ((congrFun e (ix2 i o)).trans e').trans ?_
  show rowsArr (actSums y g be) (ix2 (rowB ⟨t.val, lt2 t⟩ i) o) = _
  generalize rowsArr (actSums y g be) = G
  blk_ext [idx2_5, rowB]

end Cert.Proof

end
-- ==== Proof.Chain.lean ====
/- The three stages one after the other, through the reshapes and the transpose between them: what the result array holds
   after the last, as a function of the arguments. -/
module

public import proofs.«01_k».proof.Proof.ArrC
public import Idealize.ShloMosaic.Lib.StableHlo.ReadAt

@[expose] public section

set_option maxRecDepth 16384

noncomputable section

namespace Cert.Proof

open Idealize.ShloMosaic Idealize.ShloMosaic.TcCoe Idealize.SL.Sem
open Cert.KernelIdeal Cert.KernelIdeal.Gen

/-- A matrix as a function of two indices. -/
def mat {a b : Nat} (x : FVec Ideal ⟨2, ![a, b]⟩ .f32) (i : Fin a) (j : Fin b) : EReal := x (ix2 i j)

/-- A vector as a function of its index. -/
def vec {a : Nat} (x : FVec Ideal ⟨1, ![a]⟩ .f32) (i : Fin a) : EReal := x (ix1 i)

variable (m : (ℓ : Loc nD τ sig) → Buf (Elt Ideal) ℓ) (ρ : Dev nD → PrngReg) (c : Dev nD)

/-- The positions, by group, at the first stage's entry. -/
theorem V1_pos (g : Fin 256) (p : Fin 64) (a : Fin 2) :
    (V1 m ρ c main_v1 : FVec Ideal S256x64x2 .f32) (ix3 g p a) = mat (m ((c : Thread nD τ).loc main_arg2)) (rowG g p) a := by
  unfold V1 W1 hostOps0
  after_reads_at
  rfl

/-- The first stage's transposed positions at its entry. -/
theorem V1_posT (g : Fin 256) (a : Fin 2) (p : Fin 64) :
    (V1 m ρ c main_v2 : FVec Ideal S256x2x64 .f32) (ix3 g a p) = mat (m ((c : Thread nD τ).loc main_arg2)) (rowG g p) a := by
  unfold V1 W1 hostOps0
  after_reads_at
  rfl

/-- The first stage's bias at its entry. -/
theorem V1_bias (o : Fin 512) :
    (V1 m ρ c main_v3 : FVec Ideal S1x512 .f32) (ix2 0 o) = vec (m ((c : Thread nD τ).loc main_arg4)) o := by
  unfold V1 W1 hostOps0
  after_reads_at
  rfl

/-- The first stage's features at its entry. -/
theorem V1_feat (g : Fin 256) (p : Fin 64) (k : Fin 128) :
    (V1 m ρ c main_v0 : FVec Ideal S256x64x128 .f32) (ix3 g p k) = mat (m ((c : Thread nD τ).loc main_arg0)) (rowG g p) k := by
  unfold V1 W1 hostOps0
  after_reads_at
  rfl

/-- The first stage's entry, in terms of the arguments. -/
theorem entryA : EntryA (V1 m ρ) c (mat (m ((c : Thread nD τ).loc main_arg2))) (mat (m ((c : Thread nD τ).loc main_arg0)))
    (mat (m ((c : Thread nD τ).loc main_arg3))) (vec (m ((c : Thread nD τ).loc main_arg4))) where
  pos_c := V1_pos m ρ c
  pos_r := V1_posT m ρ c
  feat := V1_feat m ρ c
  weight l o := congrFun (W1_args m ρ c main_arg3 (by decide)) (ix2 l o)
  bias := V1_bias m ρ c

/-- The first linear layer of the arguments. -/
def layer1 : Fin 16384 → Fin 512 → EReal :=
  affine (gathered (mat (m ((c : Thread nD τ).loc main_arg2))) (mat (m ((c : Thread nD τ).loc main_arg0))))
    (mat (m ((c : Thread nD τ).loc main_arg3))) (vec (m ((c : Thread nD τ).loc main_arg4)))

/-- The first stage's arrays at its exit. -/
theorem W2_layer : W2 m ρ c (Proc.devRef .tc main_v4_0)
    = layerArr (mat (m ((c : Thread nD τ).loc main_arg2))) (mat (m ((c : Thread nD τ).loc main_arg0)))
        (mat (m ((c : Thread nD τ).loc main_arg3))) (vec (m ((c : Thread nD τ).loc main_arg4))) :=
  (W2_arr m ρ c 5).trans (arrA_layer (entryA m ρ c))

/-- The first stage leaves its layer's column sums. -/
theorem W2_sum : W2 m ρ c (Proc.devRef .tc main_v4_1) = sumRow (layer1 m c) :=
  (W2_arr m ρ c 6).trans (arrA_sum (entryA m ρ c))

/-- The first stage leaves its layer's column sums of squares. -/
theorem W2_sq : W2 m ρ c (Proc.devRef .tc main_v4_2) = sqRow (layer1 m c) :=
  (W2_arr m ρ c 7).trans (arrA_sq (entryA m ρ c))

/-- The second stage's operands at its entry. -/
theorem V3_layer (r : Fin 16384) (l : Fin 512) :
    (V3 m ρ c main_v5 : FVec Ideal S16384x512 .f32) (ix2 r l) = layer1 m c r l := by
  have e : (V3 m ρ c main_v5 : FVec Ideal S16384x512 .f32) (ix2 r l)
      = (W2 m ρ c (Proc.devRef .tc main_v4_0) : FVec Ideal S256x64x512 .f32) (ix3 ⟨r.val / 64, by omega⟩ ⟨r.val % 64, by omega⟩ l) := by
    unfold V3 W3 hostOps1
    after_reads_at
  rw [e, W2_layer]
  exact congrArg (fun r => layer1 m c r l) (Fin.ext (by simp only [rowG]; simp only [ix3_0, ix3_1]; omega))

/-- The second stage's scale at its entry. -/
theorem V3_scale (l : Fin 512) :
    (V3 m ρ c main_v6 : FVec Ideal S1x512 .f32) (ix2 0 l) = vec (m ((c : Thread nD τ).loc main_arg5)) l := by
  refine Eq.trans (b := vec (W2 m ρ c (Proc.devRef .tc main_arg5)) l) ?_ (congrFun (W2_args m ρ c main_arg5 (by decide)) (ix1 l))
  unfold V3 W3 hostOps1
  after_reads_at
  rfl

/-- The second stage's shift at its entry. -/
theorem V3_shift (l : Fin 512) :
    (V3 m ρ c main_v7 : FVec Ideal S1x512 .f32) (ix2 0 l) = vec (m ((c : Thread nD τ).loc main_arg6)) l := by
  refine Eq.trans (b := vec (W2 m ρ c (Proc.devRef .tc main_arg6)) l) ?_ (congrFun (W2_args m ρ c main_arg6 (by decide)) (ix1 l))
  unfold V3 W3 hostOps1
  after_reads_at
  rfl

/-- The second stage's bias at its entry. -/
theorem V3_bias (o : Fin 256) :
    (V3 m ρ c main_v8 : FVec Ideal S1x256 .f32) (ix2 0 o) = vec (m ((c : Thread nD τ).loc main_arg8)) o := by
  refine Eq.trans (b := vec (W2 m ρ c (Proc.devRef .tc main_arg8)) o) ?_ (congrFun (W2_args m ρ c main_arg8 (by decide)) (ix1 o))
  unfold V3 W3 hostOps1
  after_reads_at
  rfl

/-- The second stage's entry. -/
theorem entryB : EntryB (V3 m ρ) c (layer1 m c) (vec (m ((c : Thread nD τ).loc main_arg5))) (vec (m ((c : Thread nD τ).loc main_arg6)))
    (mat (m ((c : Thread nD τ).loc main_arg7))) (vec (m ((c : Thread nD τ).loc main_arg8))) where
  layer := V3_layer m ρ c
  sums l := congrFun ((W3_of m ρ c main_v4_1 (by decide)).trans (W2_sum m ρ c)) (ix2 0 l)
  squares l := congrFun ((W3_of m ρ c main_v4_2 (by decide)).trans (W2_sq m ρ c)) (ix2 0 l)
  scale := V3_scale m ρ c
  shift := V3_shift m ρ c
  weight l o := congrFun (W3_args m ρ c main_arg7 (by decide)) (ix2 l o)
  bias := V3_bias m ρ c

/-- The second linear layer of the arguments, as the kernel normalises the first. -/
def layer2 : Fin 16384 → Fin 256 → EReal :=
  affine (actSums (layer1 m c) (vec (m ((c : Thread nD τ).loc main_arg5))) (vec (m ((c : Thread nD τ).loc main_arg6))))
    (mat (m ((c : Thread nD τ).loc main_arg7))) (vec (m ((c : Thread nD τ).loc main_arg8)))

/-- The second stage's arrays at its exit. -/
theorem W4_layer : W4 m ρ c (Proc.devRef .tc main_v9_0) = rowsArr (layer2 m c) :=
  (W4_arr m ρ c 7).trans (arrB_layer (entryB m ρ c))

/-- The second stage leaves its layer's column sums. -/
theorem W4_sum : W4 m ρ c (Proc.devRef .tc main_v9_1) = sumRow (layer2 m c) :=
  (W4_arr m ρ c 8).trans (arrB_sum (entryB m ρ c))

/-- The second stage leaves its layer's column sums of squares. -/
theorem W4_sq : W4 m ρ c (Proc.devRef .tc main_v9_2) = sqRow (layer2 m c) :=
  (W4_arr m ρ c 9).trans (arrB_sq (entryB m ρ c))

/-- The third stage's scale at its entry. -/
theorem V5_scale (l : Fin 256) :
    (V5 m ρ c main_v10 : FVec Ideal S1x256 .f32) (ix2 0 l) = vec (m ((c : Thread nD τ).loc main_arg9)) l := by
  refine Eq.trans (b := vec (W4 m ρ c (Proc.devRef .tc main_arg9)) l) ?_ (congrFun (W4_args m ρ c main_arg9 (by decide)) (ix1 l))
  unfold V5 W5 hostOps2
  after_reads_at
  rfl

/-- The third stage's shift at its entry. -/
theorem V5_shift (l : Fin 256) :
    (V5 m ρ c main_v11 : FVec Ideal S1x256 .f32) (ix2 0 l) = vec (m ((c : Thread nD τ).loc main_arg10)) l := by
  refine Eq.trans (b := vec (W4 m ρ c (Proc.devRef .tc main_arg10)) l) ?_ (congrFun (W4_args m ρ c main_arg10 (by decide)) (ix1 l))
  unfold V5 W5 hostOps2
  after_reads_at
  rfl

/-- The third stage's entry. -/
theorem entryC : EntryC (V5 m ρ) c (layer2 m c) (vec (m ((c : Thread nD τ).loc main_arg9))) (vec (m ((c : Thread nD τ).loc main_arg10))) where
  layer r l := congrFun ((W5_of m ρ c main_v9_0 (by decide)).trans (W4_layer m ρ c)) (ix2 r l)
  sums l := congrFun ((W5_of m ρ c main_v9_1 (by decide)).trans (W4_sum m ρ c)) (ix2 0 l)
  squares l := congrFun ((W5_of m ρ c main_v9_2 (by decide)).trans (W4_sq m ρ c)) (ix2 0 l)
  scale := V5_scale m ρ c
  shift := V5_shift m ρ c

/-- What the kernel's result array holds at the end. -/
theorem kernel_result : W6 m ρ c (Proc.devRef .tc main_v12)
    = rowsArr (actSums (layer2 m c) (vec (m ((c : Thread nD τ).loc main_arg9))) (vec (m ((c : Thread nD τ).loc main_arg10)))) :=
  (W6_arr m ρ c 5).trans (arrC (entryC m ρ c))

end Cert.Proof

end
-- ==== Proof.RefSort.lean ====
/- The reference's two sorts, read at an index: the first lists each row's members by distance, the second inverts that
   list, so its entry `j` is the place of member `j` among the distances. -/
module

public import proofs.«01_k».proof.Proof.Chain
public import proofs.«01_k».proof.Proof.Gen.ReferenceIdeal.Run

@[expose] public section

set_option maxRecDepth 16384

noncomputable section

namespace Cert.Proof

open Idealize.ShloMosaic Idealize.ShloMosaic.TcCoe Idealize.SL.Sem Idealize.ShloMosaic.StableHlo
open Cert.ReferenceIdeal Cert.ReferenceIdeal.Gen Cert.ReferenceIdeal.Value

variable (V : Valuation τ sig (Elt Ideal))

/-- The reference's distances. -/
theorem ref_dist (g : Fin 256) (p k : Fin 64) :
    (res_main_v9 V : FVec Ideal S256x64x64 .f32) (ix3 g p k) = dist (mat (V (Proc.devRef .tc main_arg2))) (rowG g p) k := by
  pointwise [res_main_v9, res_main_v6, res_main_v1]
  rw [Fin.sum_univ_two]
  have e : mate (rowG g p) k = rowG g k := Fin.ext (by simp only [mate, rowG]; omega)
  unfold dist
  rw [e]
  rfl

/-- The order of the first sort: by distance. -/
theorem cmp_dist (a b : EReal) (u v : BitVec 32) :
    (comparator_f32_i32_d2 (F := Ideal) (a, u) (b, v) == 1#1) = decide (a < b) := by
  have hz : ∀ x : EReal, Scalar.select (Ideal.cmp .oeq x (Ideal.ofBits .f32 0x00000000#32)) (Ideal.ofBits .f32 0x00000000#32) x = x := by
    intro x
    generalize Ideal.ofBits .f32 0x00000000#32 = z
    by_cases h : x = z
    · simp [Ideal.cmp, Scalar.select, h]
    · simp [Ideal.cmp, Scalar.select, h]
  have hn : ∀ x y : EReal, Scalar.select (Ideal.cmp .une x x) y x = x := by
    intro x y
    simp [Ideal.cmp, Scalar.select]
  have e : comparator_f32_i32_d2 (F := Ideal) (a, u) (b, v) = Ideal.cmp .olt a b := by
    refine Eq.trans (b := Ideal.cmp .olt (Scalar.select (Ideal.cmp .une a a) (Ideal.ofBits .f32 0x7FC00000#32)
      (Scalar.select (Ideal.cmp .oeq a (Ideal.ofBits .f32 0x00000000#32)) (Ideal.ofBits .f32 0x00000000#32) a))
      (Scalar.select (Ideal.cmp .une b b) (Ideal.ofBits .f32 0x7FC00000#32)
      (Scalar.select (Ideal.cmp .oeq b (Ideal.ofBits .f32 0x00000000#32)) (Ideal.ofBits .f32 0x00000000#32) b))) rfl ?_
    rw [hz, hz, hn, hn]
  rw [e]
  by_cases h : a < b <;> simp [Ideal.cmp, h]

/-- A sort of rows along the last axis, its second result read at an index. -/
theorem sort2_ix3 {α : Type} {n₀ n₁ n₂ : ℕ} (cmp : α × BitVec 32 → α × BitVec 32 → BitVec 1)
    (x : (⟨3, ![n₀, n₁, n₂]⟩ : Shape).Idx → α) (y : (⟨3, ![n₀, n₁, n₂]⟩ : Shape).Idx → BitVec 32) (g : Fin n₀) (p : Fin n₁) (j : Fin n₂) :
    (Host.sort2 ⟨3, ![n₀, n₁, n₂]⟩ 2 cmp x y).2 (ix3 g p j)
      = y (ix3 g p (sortedFrom (fun k k' : Fin n₂ => cmp (x (ix3 g p k), y (ix3 g p k)) (x (ix3 g p k'), y (ix3 g p k')) == 1#1) j)) := by
  have ha : ∀ (h : 2 < 3) (k : Fin ((⟨3, ![n₀, n₁, n₂]⟩ : Shape).size ⟨2, h⟩)), (ix3 g p j).along ⟨2, h⟩ k = ix3 g p k := by
    intro h k
    funext a
    fin_cases a <;> rfl
  unfold Host.sort2
  rw [dif_pos (by decide : 2 < 3)]
  simp only [ha]
  rfl

/-- The first sort's second result: the members in the order of their distances. -/
theorem ref_order (g : Fin 256) (p j : Fin 64) :
    (res_main_v10 V : IVec S256x64x64 32) (ix3 g p j)
      = BitVec.ofNat 32 (order (dist (mat (V (Proc.devRef .tc main_arg2))) (rowG g p)) j).val := by
  refine (sort2_ix3 (comparator_f32_i32_d2 (F := Ideal)) _ _ g p j).trans ?_
  simp only [cmp_dist, ref_dist]
  rfl

/-- The second sort's second result: each member's place among the distances. -/
theorem ref_rank (g : Fin 256) (p : Fin 64) (j : Fin 16) :
    (res_main_v12 V : IVec S256x64x16 32) (ix3 g p j)
      = BitVec.ofNat 32 (rank (dist (mat (V (Proc.devRef .tc main_arg2))) (rowG g p)) ⟨j.val, by omega⟩) := by
  refine Eq.trans (b := (Host.sort2 S256x64x64 2 comparator_i32_i32_d2 (res_main_v10 (F := Ideal) V) (res_main_call1_v0 (F := Ideal) V)).2 (ix3 g p ⟨j.val, by omega⟩)) ?_ ?_
  · unfold res_main_v12
    generalize (Host.sort2 S256x64x64 2 comparator_i32_i32_d2 (res_main_v10 (F := Ideal) V) (res_main_call1_v0 (F := Ideal) V)).2 = G
    pointwise []
  · refine (sort2_ix3 comparator_i32_i32_d2 _ _ g p _).trans ?_
    have hc : ∀ (a b : Fin 64) (u v : BitVec 32),
        (comparator_i32_i32_d2 (BitVec.ofNat 32 a.val, u) (BitVec.ofNat 32 b.val, v) == 1#1) = decide (a < b) := by
      intro a b u v
      refine Eq.trans (b := (IntOp.cmpi .slt (BitVec.ofNat 32 a.val) (BitVec.ofNat 32 b.val) == 1#1)) rfl ?_
      rw [WordCmp.cmpi_slt_ofNat (by omega) (by omega)]
      by_cases h : a < b
      · simp [h]
      · simp [h]
    simp only [ref_order, hc]
    rw [← order_order]
    rfl

end Cert.Proof

end
-- ==== Proof.RefLayer.lean ====
/- The reference's first linear layer, read at an index: the gather by the members' places, then the product. -/
module

public import proofs.«01_k».proof.Proof.RefSort

@[expose] public section

set_option maxRecDepth 16384

noncomputable section

namespace Cert.Proof

open Idealize.ShloMosaic Idealize.ShloMosaic.TcCoe Idealize.SL.Sem Idealize.ShloMosaic.StableHlo
open Cert.ReferenceIdeal Cert.ReferenceIdeal.Gen Cert.ReferenceIdeal.Value

/-- The gather, by pairs of a group and a member: it reads the features of that member of that group. -/
theorem gather_pair (x : FVec Ideal S256x64x128 .f32) (idx : IVec S256x64x16x2 32) (g : Fin 256) (p : Fin 64) (s : Fin 16)
    (k : Fin 128) (a : Fin 256) (b : Fin 64) (ha : idx (ix4 g p s 0) = BitVec.ofNat 32 a.val)
    (hb : idx (ix4 g p s 1) = BitVec.ofNat 32 b.val) :
    Host.gather gather_S256x64x128_S256x64x16x2_S256x64x16x128_3_01_n_n_01_3_11128 x idx (ix4 g p s k) = x (ix3 a b k) := by
  have word : ∀ n : ℕ, n < 256 → (BitVec.ofNat 32 n).toInt.toNat = n := by
    intro n hn
    have : (BitVec.ofNat 32 n).toInt = n := by
      rw [WordCmp.toInt_eq_toNat_of_lt_half (by simp; omega), BitVec.toNat_ofNat, Nat.mod_eq_of_lt (by omega)]
    rw [this, Int.toNat_natCast]
  unfold Host.gather
  congr 1
  funext q
  refine Fin.ext ?_
  generalize hd : gather_S256x64x128_S256x64x16x2_S256x64x16x128_3_01_n_n_01_3_11128 = d
  have hi : ∀ c : Fin 2, ∀ h, d.siIdx (ix4 g p s k) ⟨c.val, h⟩ = ix4 g p s c := by
    subst hd
    intro c h
    funext e
    refine Fin.ext ?_
    fin_cases e <;> rfl
  have h0 : ∀ q : Fin 3, d.batchCoord (ix4 g p s k) q = 0 := fun q => by
    subst hd; exact GatherDims.batchCoord_eq_zero _ _ _ List.not_mem_nil
  refine Eq.trans (b := d.start (ix4 g p s k) idx q + d.batchCoord (ix4 g p s k) q + d.offCoord (ix4 g p s k) q) rfl ?_
  rw [h0]
  subst hd
  obtain rfl | rfl | rfl : q = (0 : Fin 3) ∨ q = (1 : Fin 3) ∨ q = (2 : Fin 3) := by
    revert q; decide
  · rw [GatherDims.offCoord_eq_zero _ _ _ fun h => ((GatherDims.mem_sKept _ _).mp h).1 (List.mem_cons_self ..)]
    unfold GatherDims.start
    rw [dif_pos (show (0 : Fin 3) ∈ gather_S256x64x128_S256x64x16x2_S256x64x16x128_3_01_n_n_01_3_11128.startIndexMap from List.mem_cons_self ..)]
    refine Eq.trans (congrArg (fun z => min (idx z).toInt.toNat 255) (hi 0 (by decide))) ?_
    simp only [ha, word _ (show a.val < 256 by omega)]
    exact min_eq_left (by omega)
  · rw [GatherDims.offCoord_eq_zero _ _ _ fun h => ((GatherDims.mem_sKept _ _).mp h).1
      (List.mem_cons_of_mem _ (List.mem_cons_self ..))]
    unfold GatherDims.start
    rw [dif_pos (show (1 : Fin 3) ∈ gather_S256x64x128_S256x64x16x2_S256x64x16x128_3_01_n_n_01_3_11128.startIndexMap from List.mem_cons_of_mem _ (List.mem_cons_self ..))]
    refine Eq.trans (congrArg (fun z => min (idx z).toInt.toNat 63) (hi 1 (by decide))) ?_
    simp only [hb, word _ (show b.val < 256 by omega)]
    exact min_eq_left (by omega)
  · unfold GatherDims.start GatherDims.offCoord
    rw [dif_neg (show (2 : Fin 3) ∉ gather_S256x64x128_S256x64x16x2_S256x64x16x128_3_01_n_n_01_3_11128.startIndexMap by decide),
      dif_pos (show (2 : Fin 3) ∈ gather_S256x64x128_S256x64x16x2_S256x64x16x128_3_01_n_n_01_3_11128.sKept by decide)]
    exact (Nat.zero_add _).trans rfl

variable (V : Valuation τ sig (Elt Ideal))

/-- An index that is not negative is not wrapped. -/
theorem wrap_ofNat (n : ℕ) (hn : n < 256) (x : BitVec 32) :
    Scalar.select (IntOp.cmpi .slt (BitVec.ofNat 32 n) 0#32) x (BitVec.ofNat 32 n) = BitVec.ofNat 32 n := by
  have h : IntOp.cmpi .slt (BitVec.ofNat 32 n) 0#32 = 0#1 := by
    refine (WordCmp.cmpi_slt_ofNat (by omega) (by norm_num : (0 : ℕ) < 2 ^ (32 - 1))).trans ?_
    simp
  rw [h]
  rfl

/-- The reference's first linear layer. -/
theorem ref_layer1 (r : Fin 16384) (o : Fin 512) :
    (res_main_v34 V : FVec Ideal S16384x512 .f32) (ix2 r o)
      = affine (gathered (mat (V (Proc.devRef .tc main_arg2))) (mat (V (Proc.devRef .tc main_arg0)))) (mat (V (Proc.devRef .tc main_arg3)))
          (vec (V (Proc.devRef .tc main_arg4))) r o := by
  unfold res_main_v34
  generalize hG : Host.gather (α := EReal) _ _ _ = G
  pointwise []
  refine congrArg (· + _) (Finset.sum_congr rfl fun l _ => congrArg (· * _) ?_)
  rw [← hG]
  refine (gather_pair _ _ _ _ _ _ ⟨r.val / 64, by omega⟩
    ⟨rank (dist (mat (V (Proc.devRef .tc main_arg2))) r) ⟨l.val / 128, by omega⟩, rank_lt _ _⟩ ?_ ?_).trans ?_
  · pointwise [res_main_v14]
    exact wrap_ofNat _ (by omega) _
  · pointwise []
    have e := ref_rank V ⟨r.val / 64, by omega⟩ ⟨r.val % 64, by omega⟩ ⟨l.val / 128, by omega⟩
    rw [show rowG ⟨r.val / 64, by omega⟩ ⟨r.val % 64, by omega⟩ = r from Fin.ext (by simp only [rowG]; omega)] at e
    rw [e]
    exact wrap_ofNat _ (lt_trans (rank_lt _ _) (by norm_num)) _
  · pointwise []
    rfl

end Cert.Proof

end
-- ==== Proof.RefNorm.lean ====
/- The reference's normalisations and its second linear layer, read at an index. -/
module

public import proofs.«01_k».proof.Proof.RefLayer

@[expose] public section

set_option maxRecDepth 16384

noncomputable section

namespace Cert.Proof

open Idealize.ShloMosaic Idealize.ShloMosaic.TcCoe Idealize.SL.Sem Idealize.ShloMosaic.StableHlo
open Cert.ReferenceIdeal Cert.ReferenceIdeal.Gen Cert.ReferenceIdeal.Value

variable (V : Valuation τ sig (Elt Ideal))

/-- The reference's divisor of the squared deviations: the number of rows less nothing. -/
theorem rows_sub : Ideal.ofBits FTy.f32 0x46800000#32 - (FloatOps.sitofp FTy.f32 0#32 : Ideal .f32) = rows := by
  have h : (FloatOps.sitofp FTy.f32 0#32 : Ideal .f32) = (((0#32 : BitVec 32).toInt : ℝ) : EReal) := rfl
  rw [h]
  simp [rows]

/-- The number of rows is positive. -/
theorem rows_pos : 0 < rows := by
  rw [rows_eq]
  exact_mod_cast (by norm_num : (0 : ℝ) < 16384)

/-- The first normalisation. -/
theorem ref_norm1 (r : Fin 16384) (o : Fin 512) :
    (res_main_v53 V : FVec Ideal S16384x512 .f32) (ix2 r o)
      = norm (fun i => mat (res_main_v34 V : FVec Ideal S16384x512 .f32) i o) (vec (V (Proc.devRef .tc main_arg5)) o) (vec (V (Proc.devRef .tc main_arg6)) o) r := by
  unfold res_main_v53 res_main_call2_v5 res_main_call2_v8
  generalize res_main_v34 V = Y
  pointwise []
  rw [rows_sub, if_pos rows_pos]
  rfl

/-- The second linear layer, of the rectified first. -/
theorem ref_layer2 (r : Fin 16384) (o : Fin 256) :
    (res_main_v62 V : FVec Ideal S16384x256 .f32) (ix2 r o)
      = affine (fun r o => lrelu (mat (res_main_v53 V : FVec Ideal S16384x512 .f32) r o)) (mat (V (Proc.devRef .tc main_arg7)))
          (vec (V (Proc.devRef .tc main_arg8))) r o := by
  unfold res_main_v62
  generalize res_main_v53 V = Y
  pointwise []
  exact congrArg (· + _) (Finset.sum_congr rfl fun l _ => congrArg (· * _) (lrelu_ite _ _))

/-- The second normalisation. -/
theorem ref_norm2 (r : Fin 16384) (o : Fin 256) :
    (res_main_v81 V : FVec Ideal S16384x256 .f32) (ix2 r o)
      = norm (fun i => mat (res_main_v62 V : FVec Ideal S16384x256 .f32) i o) (vec (V (Proc.devRef .tc main_arg9)) o) (vec (V (Proc.devRef .tc main_arg10)) o) r := by
  unfold res_main_v81 res_main_call4_v5 res_main_call4_v8
  generalize res_main_v62 V = Y
  pointwise []
  rw [rows_sub, if_pos rows_pos]
  rfl

/-- The result: the second normalisation, rectified. -/
theorem ref_out (r : Fin 16384) (o : Fin 256) :
    (select (cmpf .oge (res_main_v81 V) (broadcastInDim S16384x256 ![] bcast_S_S16384x256 (constant S_ .f32 0x00000000#32))) (res_main_v81 V)
        (mulf (broadcastInDim S16384x256 ![] bcast_S_S16384x256 (constant S_ .f32 0x3C23D70A#32)) (res_main_v81 V)) : FVec Ideal S16384x256 .f32) (ix2 r o)
      = lrelu (mat (res_main_v81 V : FVec Ideal S16384x256 .f32) r o) := by
  generalize res_main_v81 V = Y
  pointwise []
  exact lrelu_ite _ _

/-- The reference's result as a function of its arguments. -/
theorem ref_result :
    (select (cmpf .oge (res_main_v81 V) (broadcastInDim S16384x256 ![] bcast_S_S16384x256 (constant S_ .f32 0x00000000#32))) (res_main_v81 V)
        (mulf (broadcastInDim S16384x256 ![] bcast_S_S16384x256 (constant S_ .f32 0x3C23D70A#32)) (res_main_v81 V)) : FVec Ideal S16384x256 .f32)
      = rowsArr (act (affine (act (affine (gathered (mat (V (Proc.devRef .tc main_arg2))) (mat (V (Proc.devRef .tc main_arg0))))
            (mat (V (Proc.devRef .tc main_arg3))) (vec (V (Proc.devRef .tc main_arg4))))
          (vec (V (Proc.devRef .tc main_arg5))) (vec (V (Proc.devRef .tc main_arg6))))
        (mat (V (Proc.devRef .tc main_arg7))) (vec (V (Proc.devRef .tc main_arg8))))
      (vec (V (Proc.devRef .tc main_arg9))) (vec (V (Proc.devRef .tc main_arg10)))) := by
  have h1 : mat (res_main_v34 V : FVec Ideal S16384x512 .f32) = _ := funext fun r => funext fun o => ref_layer1 V r o
  have h2 : (fun r o => lrelu (mat (res_main_v53 V : FVec Ideal S16384x512 .f32) r o))
      = act (mat (res_main_v34 V : FVec Ideal S16384x512 .f32)) (vec (V (Proc.devRef .tc main_arg5))) (vec (V (Proc.devRef .tc main_arg6))) :=
    funext fun r => funext fun o => congrArg lrelu (ref_norm1 V r o)
  have h3 : mat (res_main_v62 V : FVec Ideal S16384x256 .f32) = _ := funext fun r => funext fun o => ref_layer2 V r o
  rw [h1] at h2
  rw [h2] at h3
  refine funext fun j => ?_
  obtain ⟨r, o, rfl⟩ : ∃ r o, j = ix2 r o := ⟨j 0, j 1, eq_ix2 j⟩
  rw [ref_out]
  refine (congrArg lrelu (ref_norm2 V r o)).trans ?_
  rw [h3]
  rfl

end Cert.Proof

end
-- ==== Proof.Pre.lean ====
/- What the precondition says: every entry of the arguments it names is a real number. -/
module

public import proofs.«01_k».proof.Proof.Gen.Pre_finite
public import proofs.«01_k».proof.Proof.Norm
public import Idealize.ShloMosaic.Lib.Pointwise
public import Idealize.ShloMosaic.Lib.ReduceAll

@[expose] public section

set_option maxRecDepth 16384

noncomputable section

namespace Cert.Proof

open Idealize.ShloMosaic Idealize.ShloMosaic.TcCoe
open Cert.Pre_finite Cert.Pre_finite.Gen

/-- An entry whose absolute value is below infinity is a real number. -/
theorem real_of_abs (x : EReal) (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  have h' : max x (-x) < ⊤ := by
    by_contra hn
    simp only [Ideal.cmp, hn] at h
    exact absurd h (by decide)
  induction x using EReal.rec with
  | bot => simp at h'
  | top => simp at h'
  | coe r => exact ⟨r, rfl⟩

/-- A conjunction over all of an array's entries that each is below infinity: each entry is a real number. -/
theorem real_of_all {s : Shape} {axes : List (Fin s.rank)} (x : FVec Ideal s .f32) (hb : S_.BroadcastsInDim s ![])
    (hr : s.ReducesTo axes S_) (hu : 0 < S_.numel) (j : S_.Idx)
    (h : Host.reduce IntOp.andi (cmpf .olt (Host.absf x) (broadcastInDim s ![] hb (constant S_ .f32 0x7F800000#32)))
      (constantI S_ 1 1#1) hr hu j = 1#1) (i : s.Idx) : IsReal (x i) := by
  haveI : Subsingleton S_.Idx := ⟨fun a b => funext fun q => q.elim0⟩
  exact real_of_abs (x i) (Host.reduce_andi_all _ _ hr hu j h i)

/-- What the precondition says of the arguments. -/
theorem real_of_pre (x0 : FVec Ideal S16384x128 .f32) (x1 : IVec S256x2 32) (x2 : FVec Ideal S16384x2 .f32)
    (x3 : FVec Ideal S2048x512 .f32) (x4 x5 x6 : FVec Ideal S512 .f32) (x7 : FVec Ideal S512x256 .f32)
    (x8 x9 x10 : FVec Ideal S256 .f32) (h : fn (F := Ideal) x0 x1 x2 x3 x4 x5 x6 x7 x8 x9 x10 = fun _ => 1#1) :
    (∀ i, IsReal (x0 i)) ∧ (∀ i, IsReal (x3 i)) ∧ (∀ i, IsReal (x4 i)) ∧ (∀ i, IsReal (x5 i)) ∧ (∀ i, IsReal (x6 i))
      ∧ (∀ i, IsReal (x7 i)) ∧ (∀ i, IsReal (x8 i)) := by
  have and_one (a b : BitVec 1) : IntOp.andi a b = 1#1 ↔ a = 1#1 ∧ b = 1#1 := by revert a b; decide
  have e := congrFun h ix0
  simp only [fn, fn_part1, andi, and_one] at e
  obtain ⟨⟨⟨⟨⟨⟨e0, e3⟩, e4⟩, e5⟩, e6⟩, e7⟩, e8⟩ := e
  exact ⟨real_of_all x0 _ _ _ _ e0, real_of_all x3 _ _ _ _ e3, real_of_all x4 _ _ _ _ e4, real_of_all x5 _ _ _ _ e5,
    real_of_all x6 _ _ _ _ e6, real_of_all x7 _ _ _ _ e7, real_of_all x8 _ _ _ _ e8⟩

end Cert.Proof

end
-- ==== Proof.Value.lean ====
/- The two programs' results are one function of the arguments, when the entries that the precondition names are finite. -/
module

public import proofs.«01_k».proof.Defs
public import proofs.«01_k».proof.Proof.KernelRun
public import proofs.«01_k».proof.Proof.RefNorm
public import proofs.«01_k».proof.Proof.Pre

@[expose] public section

set_option maxRecDepth 16384

noncomputable section

namespace Cert.Proof

open Idealize.ShloMosaic Idealize.ShloMosaic.TcCoe Idealize.SL.Sem

/-- On finite features, weights, biases and first scale and shift, the two layers with the kernel's normalisations are
    the two layers with the reference's. -/
theorem layers_eq (x : Fin 16384 → Fin 2048 → EReal) (w₁ : Fin 2048 → Fin 512 → EReal) (b₁ g₁ e₁ : Fin 512 → EReal)
    (w₂ : Fin 512 → Fin 256 → EReal) (b₂ g₂ e₂ : Fin 256 → EReal) (hx : ∀ r l, IsReal (x r l)) (hw₁ : ∀ l o, IsReal (w₁ l o))
    (hb₁ : ∀ o, IsReal (b₁ o)) (hg₁ : ∀ o, IsReal (g₁ o)) (he₁ : ∀ o, IsReal (e₁ o)) (hw₂ : ∀ l o, IsReal (w₂ l o))
    (hb₂ : ∀ o, IsReal (b₂ o)) :
    actSums (affine (actSums (affine x w₁ b₁) g₁ e₁) w₂ b₂) g₂ e₂ = act (affine (act (affine x w₁ b₁) g₁ e₁) w₂ b₂) g₂ e₂ := by
  have h₁ : ∀ r o, IsReal (affine x w₁ b₁ r o) := affine_real hx hw₁ hb₁
  rw [actSums_eq _ h₁]
  have h₂ : ∀ r o, IsReal (act (affine x w₁ b₁) g₁ e₁ r o) := fun r o =>
    lrelu_fin (norm_fin (fun i => affine x w₁ b₁ i o) (fun i => h₁ i o) (hg₁ o) (he₁ o) r)
  exact actSums_eq _ (affine_real h₂ hw₂ hb₂) g₂ e₂

/-- The result, as a function of the ten arguments it depends on. -/
def result (h : FVec Ideal ⟨2, ![16384, 128]⟩ .f32) (pos : FVec Ideal ⟨2, ![16384, 2]⟩ .f32)
    (w₁ : FVec Ideal ⟨2, ![2048, 512]⟩ .f32) (b₁ g₁ e₁ : FVec Ideal ⟨1, ![512]⟩ .f32) (w₂ : FVec Ideal ⟨2, ![512, 256]⟩ .f32)
    (b₂ g₂ e₂ : FVec Ideal ⟨1, ![256]⟩ .f32) : FVec Ideal ⟨2, ![16384, 256]⟩ .f32 :=
  rowsArr (act (affine (act (affine (gathered (mat pos) (mat h)) (mat w₁) (vec b₁)) (vec g₁) (vec e₁)) (mat w₂) (vec b₂))
    (vec g₂) (vec e₂))

section Kernel
open Cert.KernelIdeal Cert.KernelIdeal.Gen

/-- What the kernel's result array holds at the end, under the precondition. -/
theorem kernel_value (m : (ℓ : Loc nD τ sig) → Buf (Elt Ideal) ℓ) (ρ : Dev nD → PrngReg) (h : Pre_KernelIdeal_finite m) (c : Dev nD) :
    W6 m ρ c (Proc.devRef .tc main_v12)
      = result (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10)) := by
  obtain ⟨h0, h3, h4, h5, h6, h7, h8⟩ := real_of_pre _ _ _ _ _ _ _ _ _ _ _ (h c)
  refine (kernel_result m ρ c).trans ?_
  unfold layer2 layer1 result
  refine congrArg rowsArr (layers_eq _ _ _ _ _ _ _ _ _ ?_ ?_ ?_ ?_ ?_ ?_ ?_)
  · exact fun r l => h0 _
  · exact fun l o => h3 _
  · exact fun o => h4 _
  · exact fun o => h5 _
  · exact fun o => h6 _
  · exact fun l o => h7 _
  · exact fun o => h8 _

end Kernel

/-- Under the precondition both programs end with the same result, their arguments unchanged. -/
theorem same_result : algebraic_KernelIdeal_ReferenceIdeal_pre_finite := by
  intro m ρ m' ρ' hpre hagree
  refine ⟨fun c => Cert.KernelIdeal.Gen.W6 m ρ c (Proc.devRef .tc Cert.KernelIdeal.main_v12), ?_, ?_⟩
  · refine (θ_run Cert.KernelIdeal.defs _ _).mono (fun r h c => ?_) (kernel_run m ρ)
    have at_arg : ∀ a ∈ Cert.KernelIdeal.Gen.argRefs, ¬ (Proc.devRef .tc a : DevRef Cert.KernelIdeal.τ Cert.KernelIdeal.sig).isScoped →
        r.2.mem ((c : Thread Cert.KernelIdeal.nD Cert.KernelIdeal.τ).loc a) = m ((c : Thread Cert.KernelIdeal.nD Cert.KernelIdeal.τ).loc a) :=
      fun a ha hs => (h c _ (Cert.KernelIdeal.Gen.mem_uc a hs)).trans (Cert.KernelIdeal.Gen.W6_args m ρ c a ha)
    exact ⟨h c _ (Cert.KernelIdeal.Gen.mem_uc _ (by decide)), at_arg _ (by decide) (by decide), at_arg _ (by decide) (by decide),
      at_arg _ (by decide) (by decide), at_arg _ (by decide) (by decide), at_arg _ (by decide) (by decide),
      at_arg _ (by decide) (by decide), at_arg _ (by decide) (by decide), at_arg _ (by decide) (by decide),
      at_arg _ (by decide) (by decide), at_arg _ (by decide) (by decide), at_arg _ (by decide) (by decide)⟩
  · refine (θ_run Cert.ReferenceIdeal.defs _ _).mono (fun r h c => ⟨?_, (h c).2⟩) (Cert.ReferenceIdeal.Value.run (F := Ideal) m' ρ')
    obtain ⟨a0, -, a2, a3, a4, a5, a6, a7, a8, a9, a10⟩ := hagree c
    refine ((h c).1.trans (ref_result _)).trans (Eq.trans ?_ (kernel_value m ρ hpre c).symm)
    rw [← a0, ← a2, ← a3, ← a4, ← a5, ← a6, ← a7, ← a8, ← a9, ← a10]
    rfl

end Cert.Proof

end
-- ==== Proof.lean ====
/- The claims, put together. The frames of both programs, and the run of the reference, are generated; the value claim is
   `same_result` (proof/Proof/Value.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference runs, leaves its arguments as they were, and has no semaphores to leave non-zero. -/
theorem frame_r : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Every claim of this certificate. -/
theorem claim : Cert.Claim := ⟨Cert.Kernel.Gen.facts, Cert.KernelIdeal.Gen.facts, Cert.ReferenceIdeal.Gen.facts,
  Cert.Pre_finite.Gen.facts,
  fun m ρ _ => Cert.Kernel.Gen.frame m ρ, fun m ρ _ => Cert.KernelIdeal.Gen.frame m ρ,
  fun m ρ _ => Cert.KernelIdeal.Gen.frame m ρ, frame_r, fun m ρ _ => frame_r m ρ trivial, trivial,
  same_result⟩

end Cert.Proof

end
